-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_s_nonzero [hPre_s_nonzero : Cert.Pre_s_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_s_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_s_nonzero [hPre_s_nonzero : Cert.Pre_s_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_s_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_s_nonzero [hKernelIdeal : Cert.KernelIdeal.Facts] [hPre_s_nonzero : Cert.Pre_s_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_s_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_s_nonzero [hReferenceIdeal : Cert.ReferenceIdeal.Facts] [hPre_s_nonzero : Cert.Pre_s_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_s_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_s_nonzero [hKernelIdeal : Cert.KernelIdeal.Facts] [hReferenceIdeal : Cert.ReferenceIdeal.Facts] [hPre_s_nonzero : Cert.Pre_s_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_s_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68_0) = v0 c
          ∧ r.2.mem ((c.tc : Thread Cert.ReferenceIdeal.nD Cert.ReferenceIdeal.τ).loc Cert.ReferenceIdeal.main_v68_1) = v1 c
          ∧ r.2.mem ((c.tc : Thread Cert.ReferenceIdeal.nD Cert.ReferenceIdeal.τ).loc Cert.ReferenceIdeal.main_v68_2) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v68_3) = v4 c
          ∧ r.2.mem ((c.tc : Thread Cert.ReferenceIdeal.nD Cert.ReferenceIdeal.τ).loc Cert.ReferenceIdeal.main_v53) = v5 c
          ∧ r.2.mem ((c.tc : Thread Cert.ReferenceIdeal.nD Cert.ReferenceIdeal.τ).loc Cert.ReferenceIdeal.main_v67) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_s_nonzero : Cert.Pre_s_nonzero.Facts),
    quiescent_Kernel (hKernel := hKernel)
    ∧ quiescent_KernelIdeal (hKernelIdeal := hKernelIdeal)
    ∧ quiescent_KernelIdeal_pre_s_nonzero (hKernelIdeal := hKernelIdeal) (hPre_s_nonzero := hPre_s_nonzero)
    ∧ quiescent_ReferenceIdeal (hReferenceIdeal := hReferenceIdeal)
    ∧ quiescent_ReferenceIdeal_pre_s_nonzero (hReferenceIdeal := hReferenceIdeal) (hPre_s_nonzero := hPre_s_nonzero)
    ∧ preserves_Kernel_KernelIdeal
    ∧ algebraic_KernelIdeal_ReferenceIdeal_pre_s_nonzero (hKernelIdeal := hKernelIdeal) (hReferenceIdeal := hReferenceIdeal) (hPre_s_nonzero := hPre_s_nonzero)
-- ==== Pre_s_nonzero.lean ====
abbrev S2x768x1024 : Shape := ⟨3, ![2, 768, 1024]⟩
abbrev S2x768x4096 : Shape := ⟨3, ![2, 768, 4096]⟩
abbrev S4096x1024 : Shape := ⟨2, ![4096, 1024]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S2x768x1024 .bf16) (main_arg1 : FVec F S2x768x4096 .bf16) (main_arg2 : FVec F S4096x1024 .f32) (main_arg3 : FVec F S4096 .f32) : IVec S4096 1 :=
  let main_cst : FVec F S_ .f32 := constant S_ .f32 0x00000000#32
  let main_v0 : FVec F S4096 .f32 := broadcastInDim S4096 ![] bcast_S_S4096 main_cst
  let main_v1 : IVec S4096 1 := cmpf .une main_arg3 main_v0
  main_v1
-- ==== Kernel.lean ====
abbrev S2x768x1024 : Shape := ⟨3, ![2, 768, 1024]⟩
abbrev S2x768x4096 : Shape := ⟨3, ![2, 768, 4096]⟩
abbrev S4096x1024 : Shape := ⟨2, ![4096, 1024]⟩
abbrev S4096 : Shape := ⟨1, ![4096]⟩
abbrev S1536x1024 : Shape := ⟨2, ![1536, 1024]⟩
abbrev S1536x4096 : Shape := ⟨2, ![1536, 4096]⟩
abbrev S1x4096 : Shape := ⟨2, ![1, 4096]⟩
abbrev S1x1024 : Shape := ⟨2, ![1, 1024]⟩
abbrev S4096x512 : Shape := ⟨2, ![4096, 512]⟩
abbrev S1536x256 : Shape := ⟨2, ![1536, 256]⟩
abbrev S256x1024 : Shape := ⟨2, ![256, 1024]⟩
abbrev S1x256 : Shape := ⟨2, ![1, 256]⟩
abbrev S256x512 : Shape := ⟨2, ![256, 512]⟩
abbrev S1536x128 : Shape := ⟨2, ![1536, 128]⟩
abbrev S128 : Shape := ⟨1, ![128]⟩
abbrev S1x128 : Shape := ⟨2, ![1, 128]⟩
abbrev S128x128 : Shape := ⟨2, ![128, 128]⟩
abbrev S8x128 : Shape := ⟨2, ![8, 128]⟩
abbrev S32x128 : Shape := ⟨2, ![32, 128]⟩
abbrev S8x128x1 : Shape := ⟨3, ![8, 128, 1]⟩

abbrev nBuf : Space → Nat
  | .hbm => 14
  | .vmem => 19
  | .smem => 0
  | _ => 0

abbrev bufTy : (tb : Table) → Fin (tcTables nBuf tb) → BufTy
  | .hbm, ⟨0, _⟩ => ⟨S2x768x1024, .bf16⟩
  | .hbm, ⟨1, _⟩ => ⟨S2x768x4096, .bf16⟩
  | .hbm, ⟨2, _⟩ => ⟨S4096x1024, .f32⟩
  | .hbm, ⟨3, _⟩ => ⟨S4096, .f32⟩
  | .hbm, ⟨4, _⟩ => ⟨S1536x1024, .bf16⟩
  | .hbm, ⟨5, _⟩ => ⟨S1536x4096, .bf16⟩
  | .hbm, ⟨6, _⟩ => ⟨S1x4096, .f32⟩
  | .hbm, ⟨7, _⟩ => ⟨S4096x1024, .f32⟩
  | .hbm, ⟨8, _⟩ => ⟨S1x4096, .f32⟩
  | .hbm, ⟨9, _⟩ => ⟨S1536x1024, .fp8e4m3⟩
  | .hbm, ⟨10, _⟩ => ⟨S1x1024, .f32⟩
  | .hbm, ⟨11, _⟩ => ⟨S1536x4096, .fp8e5m2⟩
  | .hbm, ⟨12, _⟩ => ⟨S1x4096, .f32⟩
  | .hbm, ⟨13, _⟩ => ⟨S4096x512, .i8⟩
  | .local _ .vmem, ⟨0, _⟩ => ⟨S1536x1024, .bf16⟩
  | .local _ .vmem, ⟨1, _⟩ => ⟨S1536x256, .bf16⟩
  | .local _ .vmem, ⟨2, _⟩ => ⟨S1536x256, .bf16⟩
  | .local _ .vmem, ⟨3, _⟩ => ⟨S256x1024, .f32⟩
  | .local _ .vmem, ⟨4, _⟩ => ⟨S256x1024, .f32⟩
  | .local _ .vmem, ⟨5, _⟩ => ⟨S1x256, .f32⟩
  | .local _ .vmem, ⟨6, _⟩ => ⟨S1x256, .f32⟩
  | .local _ .vmem, ⟨7, _⟩ => ⟨S256x1024, .f32⟩
  | .local _ .vmem, ⟨8, _⟩ => ⟨S256x1024, .f32⟩
  | .local _ .vmem, ⟨9, _⟩ => ⟨S1x256, .f32⟩
  | .local _ .vmem, ⟨10, _⟩ => ⟨S1x256, .f32⟩
  | .local _ .vmem, ⟨11, _⟩ => ⟨S1536x1024, .fp8e4m3⟩
  | .local _ .vmem, ⟨12, _⟩ => ⟨S1x1024, .f32⟩
  | .local _ .vmem, ⟨13, _⟩ => ⟨S1536x256, .fp8e5m2⟩
  | .local _ .vmem, ⟨14, _⟩ => ⟨S1536x256, .fp8e5m2⟩
  | .local _ .vmem, ⟨15, _⟩ => ⟨S1x256, .f32⟩
  | .local _ .vmem, ⟨16, _⟩ => ⟨S1x256, .f32⟩
  | .local _ .vmem, ⟨17, _⟩ => ⟨S256x512, .i8⟩
  | .local _ .vmem, ⟨18, _⟩ => ⟨S256x512, .i8⟩
  | _, _ => ⟨S2x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1536x256 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x768x1024 : Shape := ⟨3, ![2, 768, 1024]⟩
abbrev S2x768x4096 : Shape := ⟨3, ![2, 768, 4096]⟩
abbrev S4096x1024 : Shape := ⟨2, ![4096, 1024]⟩
abbrev S4096 : Shape := ⟨1, ![4096]⟩
abbrev S1536x1024 : Shape := ⟨2, ![1536, 1024]⟩
abbrev S1536x4096 : Shape := ⟨2, ![1536, 4096]⟩
abbrev S_ : Shape := ⟨0, ![]⟩
abbrev S1024 : Shape := ⟨1, ![1024]⟩
abbrev S1x1024 : Shape := ⟨2, ![1, 1024]⟩
abbrev S253 : Shape := ⟨1, ![253]⟩
abbrev S253x1 : Shape := ⟨2, ![253, 1]⟩
abbrev S253x1024 : Shape := ⟨2, ![253, 1024]⟩
abbrev S1x4096 : Shape := ⟨2, ![1, 4096]⟩
abbrev S253x4096 : Shape := ⟨2, ![253, 4096]⟩
abbrev S4096x1 : Shape := ⟨2, ![4096, 1]⟩
abbrev S4096x512 : Shape := ⟨2, ![4096, 512]⟩

abbrev nBuf : Space → Nat
  | .hbm => 113
  | .vmem => 10
  | .smem => 0
  | _ => 0

abbrev bufTy : (tb : Table) → Fin (tcTables nBuf tb) → BufTy
  | .hbm, ⟨0, _⟩ => ⟨S2x768x1024, .bf16⟩
  | .hbm, ⟨1, _⟩ => ⟨S2x768x4096, .bf16⟩
  | .hbm, ⟨2, _⟩ => ⟨S4096x1024, .f32⟩
  | .hbm, ⟨3, _⟩ => ⟨S4096, .f32⟩
  | .hbm, ⟨4, _⟩ => ⟨S1536x1024, .bf16⟩
  | .hbm, ⟨5, _⟩ => ⟨S1536x4096, .bf16⟩
  | .hbm, ⟨6, _⟩ => ⟨S1536x1024, .f32⟩
  | .hbm, ⟨7, _⟩ => ⟨S1536x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S253, .i32⟩
  | .hbm, ⟨15, _⟩ => ⟨S_, .i32⟩
  | .hbm, ⟨16, _⟩ => ⟨S253, .i32⟩
  | .hbm, ⟨17, _⟩ => ⟨S253, .i32⟩
  | .hbm, ⟨18, _⟩ => ⟨S253, .f32⟩
  | .hbm, ⟨19, _⟩ => ⟨S_, .f32⟩
  | .hbm, ⟨20, _⟩ => ⟨S253, .f32⟩
  | .hbm, ⟨21, _⟩ => ⟨S253, .f32⟩
  | .hbm, ⟨22, _⟩ => ⟨S253x1, .f32⟩
  | .hbm, ⟨23, _⟩ => ⟨S253x1024, .f32⟩
  | .hbm, ⟨24, _⟩ => ⟨S253x1024, .f32⟩
  | .hbm, ⟨25, _⟩ => ⟨S253x1024, .i1⟩
  | .hbm, ⟨26, _⟩ => ⟨S253x1, .f32⟩
  | .hbm, ⟨27, _⟩ => ⟨S_, .f32⟩
  | .hbm, ⟨28, _⟩ => ⟨S_, .f32⟩
  | .hbm, ⟨29, _⟩ => ⟨S253x1024, .f32⟩
  | .hbm, ⟨30, _⟩ => ⟨S253x1024, .f32⟩
  | .hbm, ⟨31, _⟩ => ⟨S253x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .i1⟩
  | .hbm, ⟨38, _⟩ => ⟨S_, .f32⟩
  | .hbm, ⟨39, _⟩ => ⟨S1x1024, .f32⟩
  | .hbm, ⟨40, _⟩ => ⟨S1x1024, .i1⟩
  | .hbm, ⟨41, _⟩ => ⟨S1x1024, .i1⟩
  | .hbm, ⟨42, _⟩ => ⟨S_, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1536x4096, .f32⟩
  | .hbm, ⟨47, _⟩ => ⟨S1536x4096, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S_, .f32⟩
  | .hbm, ⟨52, _⟩ => ⟨S1x4096, .f32⟩
  | .hbm, ⟨53, _⟩ => ⟨S1x4096, .f32⟩
  | .hbm, ⟨54, _⟩ => ⟨S253, .i32⟩
  | .hbm, ⟨55, _⟩ => ⟨S_, .i32⟩
  | .hbm, ⟨56, _⟩ => ⟨S253, .i32⟩
  | .hbm, ⟨57, _⟩ => ⟨S253, .i32⟩
  | .hbm, ⟨58, _⟩ => ⟨S253, .f32⟩
  | .hbm, ⟨59, _⟩ => ⟨S_, .f32⟩
  | .hbm, ⟨60, _⟩ => ⟨S253, .f32⟩
  | .hbm, ⟨61, _⟩ => ⟨S253, .f32⟩
  | .hbm, ⟨62, _⟩ => ⟨S253x1, .f32⟩
  | .hbm, ⟨63, _⟩ => ⟨S253x4096, .f32⟩
  | .hbm, ⟨64, _⟩ => ⟨S253x4096, .f32⟩
  | .hbm, ⟨65, _⟩ => ⟨S253x4096, .i1⟩
  | .hbm, ⟨66, _⟩ => ⟨S253x1, .f32⟩
  | .hbm, ⟨67, _⟩ => ⟨S_, .f32⟩
  | .hbm, ⟨68, _⟩ => ⟨S_, .f32⟩
  | .hbm, ⟨69, _⟩ => ⟨S253x4096, .f32⟩
  | .hbm, ⟨70, _⟩ => ⟨S253x4096, .f32⟩
  | .hbm, ⟨71, _⟩ => ⟨S253x4096, .f32⟩
  | .hbm, ⟨72, _⟩ => ⟨S_, .f32⟩
  | .hbm, ⟨73, _⟩ => ⟨S4096, .f32⟩
  | .hbm, ⟨74, _⟩ => ⟨S1x4096, .f32⟩
  | .hbm, ⟨75, _⟩ => ⟨S_, .f32⟩
  | .hbm, ⟨76, _⟩ => ⟨S1x4096, .f32⟩
  | .hbm, ⟨77, _⟩ => ⟨S1x4096, .i1⟩
  | .hbm, ⟨78, _⟩ => ⟨S_, .f32⟩
  | .hbm, ⟨79, _⟩ => ⟨S1x4096, .f32⟩
  | .hbm, ⟨80, _⟩ => ⟨S1x4096, .i1⟩
  | .hbm, ⟨81, _⟩ => ⟨S1x4096, .i1⟩
  | .hbm, ⟨82, _⟩ => ⟨S_, .f32⟩
  | .hbm, ⟨83, _⟩ => ⟨S_, .f32⟩
  | .hbm, ⟨84, _⟩ => ⟨S1x4096, .f32⟩
  | .hbm, ⟨85, _⟩ => ⟨S1x4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S4096x1024, .f32⟩
  | .hbm, ⟨97, _⟩ => ⟨S4096x1024, .f32⟩
  | .hbm, ⟨98, _⟩ => ⟨S4096x1024, .i32⟩
  | .hbm, ⟨99, _⟩ => ⟨S_, .i32⟩
  | .hbm, ⟨100, _⟩ => ⟨S4096x1024, .i32⟩
  | .hbm, ⟨101, _⟩ => ⟨S4096x1024, .i32⟩
  | .hbm, ⟨102, _⟩ => ⟨S4096x512, .i32⟩
  | .hbm, ⟨103, _⟩ => ⟨S4096x512, .i32⟩
  | .hbm, ⟨104, _⟩ => ⟨S_, .i32⟩
  | .hbm, ⟨105, _⟩ => ⟨S4096x512, .i32⟩
  | .hbm, ⟨106, _⟩ => ⟨S4096x512, .i32⟩
  | .hbm, ⟨107, _⟩ => ⟨S4096x512, .i32⟩
  | .hbm, ⟨108, _⟩ => ⟨S4096x512, .i8⟩
  | .hbm, ⟨109, _⟩ => ⟨S4096x1024, .f32⟩
  | .hbm, ⟨110, _⟩ => ⟨S1x4096, .f32⟩
  | .hbm, ⟨111, _⟩ => ⟨S1536x1024, .fp8e4m3⟩
  | .hbm, ⟨112, _⟩ => ⟨S1536x4096, .fp8e5m2⟩
  | .local _ .vmem, ⟨0, _⟩ => ⟨S1536x1024, .bf16⟩
  | .local _ .vmem, ⟨1, _⟩ => ⟨S1536x4096, .bf16⟩
  | .local _ .vmem, ⟨2, _⟩ => ⟨S1x1024, .f32⟩
  | .local _ .vmem, ⟨3, _⟩ => ⟨S1x4096, .f32⟩
  | .local _ .vmem, ⟨4, _⟩ => ⟨S4096x1024, .f32⟩
  | .local _ .vmem, ⟨5, _⟩ => ⟨S4096x1024, .f32⟩
  | .local _ .vmem, ⟨6, _⟩ => ⟨S4096x1024, .f32⟩
  | .local _ .vmem, ⟨7, _⟩ => ⟨S1x4096, .f32⟩
  | .local _ .vmem, ⟨8, _⟩ => ⟨S1536x1024, .fp8e4m3⟩
  | .local _ .vmem, ⟨9, _⟩ => ⟨S1536x4096, .fp8e5m2⟩
  | _, _ => ⟨S2x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_call1_v0 : Ref sig .tc := ⟨.hbm, 43, rfl⟩
abbrev main_call1_v1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_cst_14 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_15 : Ref sig .tc := ⟨.hbm, 82, rfl⟩
abbrev main_call3_v0 : Ref sig .tc := ⟨.hbm, 83, rfl⟩
abbrev main_call3_v1 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_16 : Ref sig .tc := ⟨.hbm, 90, rfl⟩
abbrev main_cst_17 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_v58 : Ref sig .tc := ⟨.hbm, 97, rfl⟩
abbrev main_v59 : Ref sig .tc := ⟨.hbm, 98, rfl⟩
abbrev main_c_18 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_19 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68_0 : Ref sig .tc := ⟨.hbm, 109, rfl⟩
abbrev main_v68_1 : Ref sig .tc := ⟨.hbm, 110, rfl⟩
abbrev main_v68_2 : Ref sig .tc := ⟨.hbm, 111, rfl⟩
abbrev main_v68_3 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x4096 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelRuns.lean ====
/- The program's frame, its first part: the program up to its one region, the blocks of the windows, and what the runs
   of the body share. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x1024 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x256 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .i8 := win0_10.stage (cfg0.slots t 10)
abbrev hs0_10 (t : Fin cfg0.N) : (ms0_10 t).IsWhole := hstage0_10 ((cfg0.slots t 10).cast nbuf0_10)

end Cert.Kernel.Gen

end
-- ==== Proof.KernelRunA.lean ====
/- The body's run at the first point of the grid, where it also quantises `x`. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2292000 in
/-- The body's triple IN CASE A (`scf.if` 0 taken: points 0): on whole staging memrefs — the inputs' at their contents,
    the FORGOTTEN outputs' (4, 5, 6, 7, 8, 9, 10) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1536x1024 .bf16) (harg1 : arg1.IsWhole) (arg2 : Memref sig .tc .vmem S1536x256 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S1536x1024 .fp8e4m3) (harg7 : arg7.IsWhole) (arg8 : Memref sig .tc .vmem S1x1024 .f32) (harg8 : arg8.IsWhole) (arg9 : Memref sig .tc .vmem S1536x256 .fp8e5m2) (harg9 : arg9.IsWhole) (arg10 : Memref sig .tc .vmem S1x256 .f32) (harg10 : arg10.IsWhole) (arg11 : Memref sig .tc .vmem S256x512 .i8) (harg11 : arg11.IsWhole) (hc0 : cond0_0 i)
    (x0 : Vec F S1536x1024 .bf16) (x1 : Vec F S1536x256 .bf16) (x2 : Vec F S256x1024 .f32) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_lsq_bwd i arg1 harg1 arg2 harg2 arg3 harg3 arg4 harg4 arg5 harg5 arg6 harg6 arg7 harg7 arg8 harg8 arg9 harg9 arg10 harg10 arg11 harg11) K := by
    intro E K
    simp only [cc0_lsq_bwd_eq_skeleton]; unfold cc0_lsq_bwd_skel
    simp only [k0_part86_eq_skeleton, k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Kernel.Gen

end
-- ==== Proof.KernelRunB.lean ====
/- The body's run at every other point of the grid. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1948000 in
/-- The body's triple IN CASE B (`scf.if` 0 not taken: points 1, 2, … 15: 15 of 16): on whole staging memrefs — the inputs' at their contents,
    the FORGOTTEN outputs' (4, 5, 6, 7, 8, 9, 10) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1536x1024 .bf16) (harg1 : arg1.IsWhole) (arg2 : Memref sig .tc .vmem S1536x256 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S1536x1024 .fp8e4m3) (harg7 : arg7.IsWhole) (arg8 : Memref sig .tc .vmem S1x1024 .f32) (harg8 : arg8.IsWhole) (arg9 : Memref sig .tc .vmem S1536x256 .fp8e5m2) (harg9 : arg9.IsWhole) (arg10 : Memref sig .tc .vmem S1x256 .f32) (harg10 : arg10.IsWhole) (arg11 : Memref sig .tc .vmem S256x512 .i8) (harg11 : arg11.IsWhole) (hc0 : ¬cond0_0 i)
    (x0 : Vec F S1536x1024 .bf16) (x1 : Vec F S1536x256 .bf16) (x2 : Vec F S256x1024 .f32) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_lsq_bwd i arg1 harg1 arg2 harg2 arg3 harg3 arg4 harg4 arg5 harg5 arg6 harg6 arg7 harg7 arg8 harg8 arg9 harg9 arg10 harg10 arg11 harg11) K := by
    intro E K
    simp only [cc0_lsq_bwd_eq_skeleton]; unfold cc0_lsq_bwd_skel
    simp only [k0_part86_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Kernel.Gen

end
-- ==== Proof.KernelFrame.lean ====
/- The program's frame: its run terminates, faults nowhere, and leaves its arguments and every semaphore counter as
   they were. What it leaves in its results is not named here. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6, 7, 8, 9, 10): nothing reads what the kernel leaves in them, so nothing
    of it is named (Lib/Pipeline/Dat.lean `Dat.toRForget`). -/
def forgets0 : Fin 11 → Bool := fun w => w.val == 4 || w.val == 5 || w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F`, cited at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Tiles.lean ====
/- The kernel body's values, tile by tile: one definition per value of the body, over the tile's place.

   The body is unrolled: it quantises the columns of `x` and `dy` in chunks of 128 lanes, and walks the block of `w`
   in tiles of 32 rows by 128 lanes. Every chunk and every tile runs the same operations, so each value is stated here
   once, as a function of the chunk or tile, over any float semantics `F`; `Run.lean` shows that the printed body
   leaves exactly these in its output buffers. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Body

open Idealize.ShloMosaic Idealize.ShloMosaic.TcCoe Cert.KernelIdeal Cert.KernelIdeal.Gen

variable {F : FTy → Type} [FloatOps F]

/-! ## The places -/

/-- Columns `128c … 128c+127` of the block of `x`. -/
abbrev colX (c : Fin 8) : Rect S1536x1024 :=
  Rect.unit (s := S1536x1024) ![0, 128 * c.val] S1536x128.size (Fin.forall_fin_two.mpr ⟨Nat.le_refl _, by
    show 128 * c.val + 128 ≤ 1024; omega⟩)
/-- Columns `128c … 128c+127` of the row of `x`'s scales. -/
abbrev colSx (c : Fin 8) : Rect S1x1024 :=
  Rect.unit (s := S1x1024) ![0, 128 * c.val] S1x128.size (Fin.forall_fin_two.mpr ⟨Nat.le_refl _, by
    show 128 * c.val + 128 ≤ 1024; omega⟩)
/-- Columns `128b … 128b+127` of the block of `dy`. -/
abbrev colY (b : Fin 2) : Rect S1536x256 :=
  Rect.unit (s := S1536x256) ![0, 128 * b.val] S1536x128.size (Fin.forall_fin_two.mpr ⟨Nat.le_refl _, by
    show 128 * b.val + 128 ≤ 256; omega⟩)
/-- Columns `128b … 128b+127` of a row of 256. -/
abbrev colSy (b : Fin 2) : Rect S1x256 :=
  Rect.unit (s := S1x256) ![0, 128 * b.val] S1x128.size (Fin.forall_fin_two.mpr ⟨Nat.le_refl _, by
    show 128 * b.val + 128 ≤ 256; omega⟩)
/-- Rows `32r … 32r+31`, columns `128c … 128c+127` of the block of `w`. -/
abbrev tileW (r c : Fin 8) : Rect S256x1024 :=
  Rect.unit (s := S256x1024) ![32 * r.val, 128 * c.val] S32x128.size (Fin.forall_fin_two.mpr ⟨by
    show 32 * r.val + 32 ≤ 256; omega, by show 128 * c.val + 128 ≤ 1024; omega⟩)
/-- Rows `32r … 32r+31`, columns `128h … 128h+127` of the block of packed codes. -/
abbrev tileP (r : Fin 8) (h : Fin 4) : Rect S256x512 :=
  Rect.unit (s := S256x512) ![32 * r.val, 128 * h.val] S32x128.size (Fin.forall_fin_two.mpr ⟨by
    show 32 * r.val + 32 ≤ 256; omega, by show 128 * h.val + 128 ≤ 512; omega⟩)
/-- The whole block of `dy`. -/
abbrev allY : Rect S1536x256 := Rect.unit (s := S1536x256) ![0, 0] S1536x256.size (Fin.forall_fin_two.mpr ⟨by decide, by decide⟩)
/-- The whole block of `x`. -/
abbrev allX : Rect S1536x1024 := Rect.unit (s := S1536x1024) ![0, 0] S1536x1024.size (Fin.forall_fin_two.mpr ⟨by decide, by decide⟩)

/-- The corner of a matrix. -/
theorem off00 : (![0, 0] : Fin 2 → ℕ) = fun _ => 0 := funext (Fin.forall_fin_two.mpr ⟨rfl, rfl⟩)

/-- The chunk of 128 rows that row tile `r` lies in. -/
abbrev chunkOf (r : Fin 8) : Fin 2 := ⟨r.val / 4, by omega⟩
/-- Row tile `j` of chunk `b`. -/
abbrev rowOf (b : Fin 2) (j : Fin 4) : Fin 8 := ⟨4 * b.val + j.val, by omega⟩

/-! ## A column chunk's power-of-two scales -/

/-- The largest magnitude of each column. -/
def amax (v : FVec F S1536x128 .bf16) : FVec F S1x128 .f32 :=
  extf .f32 (shapeCast S1x128 (multiReduction .maximumf [0] S128 (absf v) 0xFF80#16 reduces_S1536x128_S128 (.inr rfl) rfl)
    shapeCasts_S128_S1x128) bitsLt_bf16_f32

/-- One step of the search for the exponent field of `t`: `ex + k` if `t` is at least the number with that field and
    no fraction bits, else `ex`. -/
def rung (k : BitVec 32) (t : FVec F S1x128 .f32) (ex : IVec S1x128 32) : IVec S1x128 32 :=
  select (cmpf .oge t (bitcastToFloat .f32 (shli (addi ex (broadcast S1x128 k)) (broadcast S1x128 23#32))))
    (addi ex (broadcast S1x128 k)) ex

/-- The exponent field of `t`: 255 from `2^127` on, else by eight steps of the search. -/
def field (t : FVec F S1x128 .f32) : IVec S1x128 32 :=
  select (cmpf .oge t (broadcast S1x128 (Scalar.ofBits .f32 0x7F000000#32))) (broadcast S1x128 255#32)
    (rung 1#32 t (rung 2#32 t (rung 4#32 t (rung 8#32 t (rung 16#32 t (rung 32#32 t (rung 64#32 t (rung 128#32 t
      (broadcast S1x128 0#32)))))))))

/-- Where the scale is one: the field is 0 or 255, or the column is zero. -/
def isOne (a t : FVec F S1x128 .f32) : IVec S1x128 1 :=
  ori (ori (cmpi .eq (field t) (broadcast S1x128 0#32)) (cmpi .eq (field t) (broadcast S1x128 255#32)))
    (cmpf .oeq a (broadcast S1x128 (Scalar.ofBits .f32 0x00000000#32)))

/-- The scale: the power of two whose exponent field is one more than `t`'s. -/
def scaleOf (a t : FVec F S1x128 .f32) : FVec F S1x128 .f32 :=
  select (isOne a t) (broadcast S1x128 (Scalar.ofBits .f32 0x3F800000#32))
    (bitcastToFloat .f32 (shli (addi (field t) (broadcast S1x128 1#32)) (broadcast S1x128 23#32)))

/-- The scale's inverse: the power of two whose exponent field is 253 less `t`'s. -/
def invOf (a t : FVec F S1x128 .f32) : FVec F S1x128 .f32 :=
  select (isOne a t) (broadcast S1x128 (Scalar.ofBits .f32 0x3F800000#32))
    (bitcastToFloat .f32 (shli (subi (broadcast S1x128 253#32) (field t)) (broadcast S1x128 23#32)))

/-- `amax` times a constant (one over the format's largest value). -/
def tOf (k : BitVec 32) (v : FVec F S1536x128 .bf16) : FVec F S1x128 .f32 :=
  mulf (amax v) (broadcast S1x128 (Scalar.ofBits .f32 k))

/-- The chunk times the inverse scale, clipped. -/
def clipped (k lo hi : BitVec 32) (v : FVec F S1536x128 .bf16) : FVec F S1536x128 .bf16 :=
  minimumf (broadcast S1536x128 (Scalar.truncf .bf16 bitsLt_bf16_f32 (Scalar.ofBits .f32 hi)))
    (maximumf (broadcast S1536x128 (Scalar.truncf .bf16 bitsLt_bf16_f32 (Scalar.ofBits .f32 lo)))
      (mulf v (broadcastTo S1536x128 (truncf .bf16 (invOf (amax v) (tOf k v)) bitsLt_bf16_f32) broadcasts_S1x128_S1536x128)))

/-- A chunk of `x` as loaded. -/
def xChunk (v : Vec F S1536x128 .bf16) : FVec F S1536x128 .bf16 := shapeCast S1536x128 v shapeCasts_S1536x128_S1536x128

/-- A chunk of `x`: its quantised columns, and its scales. -/
def xqTile (v : Vec F S1536x128 .bf16) : FVec F S1536x128 .fp8e4m3 :=
  truncf .fp8e4m3 (clipped 0x3B124925#32 0xC3E00000#32 0x43E00000#32 (xChunk v)) bitsLt_fp8e4m3_bf16
def sxTile (v : Vec F S1536x128 .bf16) : FVec F S1x128 .f32 := scaleOf (amax (xChunk v)) (tOf 0x3B124925#32 (xChunk v))
/-- A chunk of `dy`: its quantised columns, and its scales. -/
def yqTile (v : Vec F S1536x128 .bf16) : FVec F S1536x128 .fp8e5m2 :=
  truncf .fp8e5m2 (clipped 0x37924925#32 0xC7600000#32 0x47600000#32 (xChunk v)) bitsLt_fp8e5m2_bf16
def syTile (v : Vec F S1536x128 .bf16) : FVec F S1x128 .f32 := scaleOf (amax (xChunk v)) (tOf 0x37924925#32 (xChunk v))

/-! ## The quantised `x` and `dy` and their scales, whole blocks -/

def xqPieces (x : Vec F S1536x1024 .bf16) : List (View.Piece (Elt F) S1536x1024 .fp8e4m3) :=
  [(7 : Fin 8), 6, 5, 4, 3, 2, 1, 0].map fun c => ⟨colX c, xqTile (View.ld x (colX c))⟩
def sxPieces (x : Vec F S1536x1024 .bf16) : List (View.Piece (Elt F) S1x1024 .f32) :=
  [(7 : Fin 8), 6, 5, 4, 3, 2, 1, 0].map fun c => ⟨colSx c, sxTile (View.ld x (colX c))⟩
def yqPieces (y : Vec F S1536x256 .bf16) : List (View.Piece (Elt F) S1536x256 .fp8e5m2) :=
  [(1 : Fin 2), 0].map fun b => ⟨colY b, yqTile (View.ld y (colY b))⟩
def syPieces (y : Vec F S1536x256 .bf16) : List (View.Piece (Elt F) S1x256 .f32) :=
  [(1 : Fin 2), 0].map fun b => ⟨colSy b, syTile (View.ld y (colY b))⟩

/-- The four blocks. -/
def XQ (x : Vec F S1536x1024 .bf16) : Vec F S1536x1024 .fp8e4m3 := View.canon (xqPieces x)
def SX (x : Vec F S1536x1024 .bf16) : Vec F S1x1024 .f32 := View.canon (sxPieces x)
def YQ (y : Vec F S1536x256 .bf16) : Vec F S1536x256 .fp8e5m2 := View.canon (yqPieces y)
def SY (y : Vec F S1536x256 .bf16) : Vec F S1x256 .f32 := View.canon (syPieces y)

/-! ## The weight gradient -/

/-- The matrix product over the tokens. -/
def ACC (yq : Vec F S1536x256 .fp8e5m2) (xq : Vec F S1536x1024 .fp8e4m3) : FVec F S256x1024 .f32 :=
  matmul dot_S1536x256_S1536x1024_S256x1024_0_0_1_1_n_n none (shapeCast S1536x256 yq shapeCasts_S1536x256_S1536x256)
    (shapeCast S1536x1024 xq shapeCasts_S1536x1024_S1536x1024) (constant S256x1024 .f32 0x00000000#32)

/-- A row of scales down the rows of a square. -/
def downRows (sc : FVec F S1x128 .f32) : FVec F S128x128 .f32 :=
  transpose S128x128 [1, 0] (broadcastTo S128x128 (shapeCast S1x128 sc shapeCasts_S1x128_S1x128) broadcasts_S1x128_S128x128)
    transposes_S128x128_p1_0_S128x128
/-- One over a row of the step sizes, down the rows of a square. -/
def invRows (s : Vec F S1x128 .f32) : FVec F S128x128 .f32 :=
  divf (broadcast S128x128 (Scalar.ofBits .f32 0x3F800000#32)) (downRows (shapeCast S1x128 s shapeCasts_S1x128_S1x128))

/-- Row tile `r` of such a square. -/
def rowsOf (r : Fin 8) (m : FVec F S128x128 .f32) : FVec F S32x128 .f32 :=
  extractStridedSlice S32x128 ![32 * (r.val % 4), 0] m ⟨rfl, Fin.forall_fin_two.mpr ⟨by
    show 32 * (r.val % 4) + 32 ≤ 128; omega, Nat.le_refl _⟩⟩

section Tile

variable (y : Vec F S1536x256 .bf16) (w : Vec F S256x1024 .f32) (s : Vec F S1x256 .f32) (A : FVec F S256x1024 .f32)
  (sx : Vec F S1x1024 .f32)

/-- The weights over their step sizes. -/
def tV (r c : Fin 8) : FVec F S32x128 .f32 := mulf (View.ld w (tileW r c)) (rowsOf r (invRows (View.ld s (colSy (chunkOf r)))))
/-- Clipped to the codes' range, -/
def tC (r c : Fin 8) : FVec F S32x128 .f32 :=
  minimumf (broadcast S32x128 (Scalar.ofBits .f32 0x40E00000#32))
    (maximumf (broadcast S32x128 (Scalar.ofBits .f32 0xC1000000#32)) (tV w s r c))
/-- rounded, -/
def tQ (r c : Fin 8) : FVec F S32x128 .f32 := roundeven (tC w s r c)
/-- whether the clipping left them, -/
def tIn (r c : Fin 8) : IVec S32x128 1 := cmpf .oeq (tC w s r c) (tV w s r c)
/-- and the step sizes' factor. -/
def tF (r c : Fin 8) : FVec F S32x128 .f32 :=
  subf (tQ w s r c) (select (tIn w s r c) (tV w s r c) (broadcast S32x128 (Scalar.ofBits .f32 0x00000000#32)))

/-- The scaled product. -/
def tD (r c : Fin 8) : FVec F S32x128 .f32 :=
  mulf (mulf (extractStridedSlice S32x128 ![32 * r.val, 128 * c.val] A ⟨rfl, Fin.forall_fin_two.mpr ⟨by
      show 32 * r.val + 32 ≤ 256; omega, by show 128 * c.val + 128 ≤ 1024; omega⟩⟩)
      (rowsOf r (downRows (syTile (View.ld y (colY (chunkOf r)))))))
    (broadcastTo S32x128 (shapeCast S1x128 (View.ld sx (colSx c)) shapeCasts_S1x128_S1x128) broadcasts_S1x128_S32x128)

/-- The gradient of the weights: the scaled product inside the range, zero outside. -/
def tDw (r c : Fin 8) : FVec F S32x128 .f32 :=
  select (tIn w s r c) (tD y A sx r c) (broadcast S32x128 (Scalar.ofBits .f32 0x00000000#32))

/-- The step sizes' gradient, summed over the eight column tiles lane by lane. -/
def tAcc (r : Fin 8) : FVec F S32x128 .f32 :=
  [(0 : Fin 8), 1, 2, 3, 4, 5, 6, 7].foldl (fun a c => addf a (mulf (tF w s r c) (tD y A sx r c)))
    (broadcast S32x128 (Scalar.ofBits .f32 0x00000000#32))

/-- Its sum over the lanes, one number per row of chunk `b`. -/
def tDs (b : Fin 2) : FVec F S1x128 .f32 :=
  mulf (broadcast S1x128 (Scalar.ofBits .f32 0x3C41848F#32))
    (shapeCast S1x128 (multiReduction .add [0] S128 (transpose S128x128 [1, 0] (concatenate S128x128 0
      [⟨S32x128, tAcc y w s A sx (rowOf b 0)⟩, ⟨S32x128, tAcc y w s A sx (rowOf b 1)⟩, ⟨S32x128, tAcc y w s A sx (rowOf b 2)⟩,
        ⟨S32x128, tAcc y w s A sx (rowOf b 3)⟩] concatenates_S32x128_S32x128_S32x128_S32x128_S128x128_d0)
      transposes_S128x128_p1_0_S128x128) 0x00000000#32 reduces_S128x128_S128 (.inl rfl) rfl) shapeCasts_S128_S1x128)

/-- The codes of a tile, four rows to a word. -/
def tCode (r c : Fin 8) : IVec S8x128 32 :=
  bitcast S8x128 32 (trunci 8 (fptosi 32 (tQ w s r c)) natLt_8_32) bitcasts_S32x128_w8_S8x128_w32

/-- Lane indices as the gather takes them (a negative one from the end). -/
def lanes (ix : IVec S8x128 32) : IVec S8x128 32 :=
  shapeCast S8x128 (shapeCast S8x128x1 (select (cmpi .slt ix (broadcast S8x128 0#32)) (addi ix (broadcast S8x128 128#32)) ix)
    shapeCasts_S8x128_S8x128x1) shapeCasts_S8x128x1_S8x128

/-- Two tiles' codes, the first's even lanes then the second's, with the odd lanes' codes in the high half-bytes. -/
def packed (p q : IVec S8x128 32) : IVec S32x128 8 :=
  bitcast S32x128 8
    (ori (andi (select k0_pay116 (dynamicGather 1 p (lanes k0_pay117)) (dynamicGather 1 q (lanes k0_pay118)))
        (broadcast S8x128 252645135#32))
      (shli (andi (dynamicRotate 1 64#32 none
          (select k0_pay116 (dynamicGather 1 q (lanes k0_pay118)) (dynamicGather 1 p (lanes k0_pay117))) rotates_S8x128_d1)
        (broadcast S8x128 252645135#32)) (broadcast S8x128 4#32)))
    bitcasts_S8x128_w32_S32x128_w8

/-- Tile `(r, h)` of the packed codes: from tiles `2h` and `2h+1`. -/
def tP (r : Fin 8) (h : Fin 4) : IVec S32x128 8 :=
  packed (tCode w s r ⟨2 * h.val, by omega⟩) (tCode w s r ⟨2 * h.val + 1, by omega⟩)

/-! ## The remaining outputs, whole blocks -/

/-- The places of the weight gradient's stores, last first. -/
def dwPlaces : List (Fin 8 × Fin 8) :=
  [(7 : Fin 8), 6, 5, 4, 3, 2, 1, 0].flatMap fun r => [(7 : Fin 8), 6, 5, 4, 3, 2, 1, 0].map fun c => (r, c)
def dwPieces : List (View.Piece (Elt F) S256x1024 .f32) := dwPlaces.map fun p => ⟨tileW p.1 p.2, tDw y w s A sx p.1 p.2⟩
def dsPieces : List (View.Piece (Elt F) S1x256 .f32) := [(1 : Fin 2), 0].map fun b => ⟨colSy b, tDs y w s A sx b⟩
/-- The places of the packed codes' stores, last first. -/
def qpPlaces : List (Fin 8 × Fin 4) :=
  [(7 : Fin 8), 6, 5, 4, 3, 2, 1, 0].flatMap fun r => [(3 : Fin 4), 2, 1, 0].map fun c => (r, c)
def qpPieces : List (View.Piece (Elt F) S256x512 .i8) := qpPlaces.map fun p => ⟨tileP p.1 p.2, tP w s p.1 p.2⟩

end Tile

/-- The weight gradient's block, the step sizes' and the packed codes', from the blocks of `dy`, `w`, `s` and the quantised
    `x` and its scales. -/
def DW (y : Vec F S1536x256 .bf16) (w : Vec F S256x1024 .f32) (s : Vec F S1x256 .f32) (xq : Vec F S1536x1024 .fp8e4m3)
    (sx : Vec F S1x1024 .f32) : Vec F S256x1024 .f32 := View.canon (dwPieces y w s (ACC (YQ y) xq) sx)
def DS (y : Vec F S1536x256 .bf16) (w : Vec F S256x1024 .f32) (s : Vec F S1x256 .f32) (xq : Vec F S1536x1024 .fp8e4m3)
    (sx : Vec F S1x1024 .f32) : Vec F S1x256 .f32 := View.canon (dsPieces y w s (ACC (YQ y) xq) sx)
def QP (w : Vec F S256x1024 .f32) (s : Vec F S1x256 .f32) : Vec F S256x512 .i8 := View.canon (qpPieces w s)

/-! ## The stores cover the blocks -/

theorem mem_all8 : ∀ c : Fin 8, c ∈ [(7 : Fin 8), 6, 5, 4, 3, 2, 1, 0] := by decide
theorem mem_all4 : ∀ c : Fin 4, c ∈ [(3 : Fin 4), 2, 1, 0] := by decide
theorem mem_all2 : ∀ c : Fin 2, c ∈ [(1 : Fin 2), 0] := by decide

theorem mem_dwPlaces (r c : Fin 8) : (r, c) ∈ dwPlaces :=
  List.mem_flatMap.mpr ⟨r, mem_all8 r, List.mem_map.mpr ⟨c, mem_all8 c, rfl⟩⟩
theorem mem_qpPlaces (r : Fin 8) (h : Fin 4) : (r, h) ∈ qpPlaces :=
  List.mem_flatMap.mpr ⟨r, mem_all8 r, List.mem_map.mpr ⟨h, mem_all4 h, rfl⟩⟩

/-! An index lies in the chunk, or the tile, that its coordinates fall in. -/

theorem mem_colX (c : Fin 8) (j : S1536x1024.Idx)
    (h' : 128 * c.val ≤ (j (1 : Fin 2)).val ∧ (j (1 : Fin 2)).val < 128 * c.val + 128) : j ∈ (colX c).set :=
  Rect.mem_set_unit.mpr (Fin.forall_fin_two.mpr ⟨⟨Nat.zero_le _, (Nat.zero_add 1536).symm ▸ (j (0 : Fin 2)).isLt⟩, h'⟩)

theorem mem_colSx (c : Fin 8) (j : S1x1024.Idx)
    (h' : 128 * c.val ≤ (j (1 : Fin 2)).val ∧ (j (1 : Fin 2)).val < 128 * c.val + 128) : j ∈ (colSx c).set :=
  Rect.mem_set_unit.mpr (Fin.forall_fin_two.mpr ⟨⟨Nat.zero_le _, (Nat.zero_add 1).symm ▸ (j (0 : Fin 2)).isLt⟩, h'⟩)

theorem mem_colY (b : Fin 2) (j : S1536x256.Idx)
    (h' : 128 * b.val ≤ (j (1 : Fin 2)).val ∧ (j (1 : Fin 2)).val < 128 * b.val + 128) : j ∈ (colY b).set :=
  Rect.mem_set_unit.mpr (Fin.forall_fin_two.mpr ⟨⟨Nat.zero_le _, (Nat.zero_add 1536).symm ▸ (j (0 : Fin 2)).isLt⟩, h'⟩)

theorem mem_colSy (b : Fin 2) (j : S1x256.Idx)
    (h' : 128 * b.val ≤ (j (1 : Fin 2)).val ∧ (j (1 : Fin 2)).val < 128 * b.val + 128) : j ∈ (colSy b).set :=
  Rect.mem_set_unit.mpr (Fin.forall_fin_two.mpr ⟨⟨Nat.zero_le _, (Nat.zero_add 1).symm ▸ (j (0 : Fin 2)).isLt⟩, h'⟩)

theorem mem_tileW (r : Fin 8) (c : Fin 8) (j : S256x1024.Idx) (h : 32 * r.val ≤ (j (0 : Fin 2)).val ∧ (j (0 : Fin 2)).val < 32 * r.val + 32)
    (h' : 128 * c.val ≤ (j (1 : Fin 2)).val ∧ (j (1 : Fin 2)).val < 128 * c.val + 128) : j ∈ (tileW r c).set :=
  Rect.mem_set_unit.mpr (Fin.forall_fin_two.mpr ⟨h, h'⟩)

theorem mem_tileP (r : Fin 8) (h : Fin 4) (j : S256x512.Idx) (h₀ : 32 * r.val ≤ (j (0 : Fin 2)).val ∧ (j (0 : Fin 2)).val < 32 * r.val + 32)
    (h' : 128 * h.val ≤ (j (1 : Fin 2)).val ∧ (j (1 : Fin 2)).val < 128 * h.val + 128) : j ∈ (tileP r h).set :=
  Rect.mem_set_unit.mpr (Fin.forall_fin_two.mpr ⟨h₀, h'⟩)

/-! The stores cover the blocks. -/

theorem cover_xq (x : Vec F S1536x1024 .bf16) (j : S1536x1024.Idx) : ∃ p ∈ xqPieces x, j ∈ p.1.set := by
  have h1 : (j (1 : Fin 2)).val < 1024 := (j (1 : Fin 2)).isLt
  obtain ⟨c, hc⟩ : ∃ c : Fin 8, (j (1 : Fin 2)).val / 128 = c.val := ⟨⟨(j (1 : Fin 2)).val / 128, by omega⟩, rfl⟩
  exact ⟨_, List.mem_map.mpr ⟨c, mem_all8 c, rfl⟩, mem_colX c j (by omega)⟩

theorem cover_sx (x : Vec F S1536x1024 .bf16) (j : S1x1024.Idx) : ∃ p ∈ sxPieces x, j ∈ p.1.set := by
  have h1 : (j (1 : Fin 2)).val < 1024 := (j (1 : Fin 2)).isLt
  obtain ⟨c, hc⟩ : ∃ c : Fin 8, (j (1 : Fin 2)).val / 128 = c.val := ⟨⟨(j (1 : Fin 2)).val / 128, by omega⟩, rfl⟩
  exact ⟨_, List.mem_map.mpr ⟨c, mem_all8 c, rfl⟩, mem_colSx c j (by omega)⟩

theorem cover_yq (y : Vec F S1536x256 .bf16) (j : S1536x256.Idx) : ∃ p ∈ yqPieces y, j ∈ p.1.set := by
  have h1 : (j (1 : Fin 2)).val < 256 := (j (1 : Fin 2)).isLt
  obtain ⟨c, hc⟩ : ∃ c : Fin 2, (j (1 : Fin 2)).val / 128 = c.val := ⟨⟨(j (1 : Fin 2)).val / 128, by omega⟩, rfl⟩
  exact ⟨_, List.mem_map.mpr ⟨c, mem_all2 c, rfl⟩, mem_colY c j (by omega)⟩

theorem cover_sy (y : Vec F S1536x256 .bf16) (j : S1x256.Idx) : ∃ p ∈ syPieces y, j ∈ p.1.set := by
  have h1 : (j (1 : Fin 2)).val < 256 := (j (1 : Fin 2)).isLt
  obtain ⟨c, hc⟩ : ∃ c : Fin 2, (j (1 : Fin 2)).val / 128 = c.val := ⟨⟨(j (1 : Fin 2)).val / 128, by omega⟩, rfl⟩
  exact ⟨_, List.mem_map.mpr ⟨c, mem_all2 c, rfl⟩, mem_colSy c j (by omega)⟩

theorem cover_ds (y : Vec F S1536x256 .bf16) (w : Vec F S256x1024 .f32) (s : Vec F S1x256 .f32) (A : FVec F S256x1024 .f32)
    (sx : Vec F S1x1024 .f32) (j : S1x256.Idx) : ∃ p ∈ dsPieces y w s A sx, j ∈ p.1.set := by
  have h1 : (j (1 : Fin 2)).val < 256 := (j (1 : Fin 2)).isLt
  obtain ⟨c, hc⟩ : ∃ c : Fin 2, (j (1 : Fin 2)).val / 128 = c.val := ⟨⟨(j (1 : Fin 2)).val / 128, by omega⟩, rfl⟩
  exact ⟨_, List.mem_map.mpr ⟨c, mem_all2 c, rfl⟩, mem_colSy c j (by omega)⟩

theorem cover_dw (y : Vec F S1536x256 .bf16) (w : Vec F S256x1024 .f32) (s : Vec F S1x256 .f32) (A : FVec F S256x1024 .f32)
    (sx : Vec F S1x1024 .f32) (j : S256x1024.Idx) : ∃ p ∈ dwPieces y w s A sx, j ∈ p.1.set := by
  have h0 : (j (0 : Fin 2)).val < 256 := (j (0 : Fin 2)).isLt
  have h1 : (j (1 : Fin 2)).val < 1024 := (j (1 : Fin 2)).isLt
  obtain ⟨r, hr⟩ : ∃ r : Fin 8, (j (0 : Fin 2)).val / 32 = r.val := ⟨⟨(j (0 : Fin 2)).val / 32, by omega⟩, rfl⟩
  obtain ⟨c, hc⟩ : ∃ c : Fin 8, (j (1 : Fin 2)).val / 128 = c.val := ⟨⟨(j (1 : Fin 2)).val / 128, by omega⟩, rfl⟩
  exact ⟨_, List.mem_map.mpr ⟨(r, c), mem_dwPlaces r c, rfl⟩, mem_tileW r c j (by omega) (by omega)⟩

theorem cover_qp (w : Vec F S256x1024 .f32) (s : Vec F S1x256 .f32) (j : S256x512.Idx) : ∃ p ∈ qpPieces w s, j ∈ p.1.set := by
  have h0 : (j (0 : Fin 2)).val < 256 := (j (0 : Fin 2)).isLt
  have h1 : (j (1 : Fin 2)).val < 512 := (j (1 : Fin 2)).isLt
  obtain ⟨r, hr⟩ : ∃ r : Fin 8, (j (0 : Fin 2)).val / 32 = r.val := ⟨⟨(j (0 : Fin 2)).val / 32, by omega⟩, rfl⟩
  obtain ⟨c, hc⟩ : ∃ c : Fin 4, (j (1 : Fin 2)).val / 128 = c.val := ⟨⟨(j (1 : Fin 2)).val / 128, by omega⟩, rfl⟩
  exact ⟨_, List.mem_map.mpr ⟨(r, c), mem_qpPlaces r c, rfl⟩, mem_tileP r c j (by omega) (by omega)⟩

end Cert.KernelIdeal.Body

end
-- ==== Proof.Spec.lean ====
/- What the kernel computes, number by number, over the extended reals. -/
module

public import proofs.«01_k».proof.Proof.Tiles
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! The kernel's arithmetic, one number at a time, over the extended reals. -/

/-- One step of the search for the exponent field of `t`. -/
def rungS (k : BitVec 32) (t : EReal) (ex : BitVec 32) : BitVec 32 :=
  Scalar.select (FloatOps.cmpf (F := Ideal) (φ := .f32) .oge t (Ideal.ofBits .f32 (IntOp.shli .vector (IntOp.addi ex k) 23#32)))
    (IntOp.addi ex k) ex

/-- The exponent field of `t`, 255 from `2^127` on. -/
def fieldS (t : EReal) : BitVec 32 :=
  Scalar.select (FloatOps.cmpf (F := Ideal) (φ := .f32) .oge t (Ideal.ofBits .f32 0x7F000000#32)) 255#32
    (rungS 1#32 t (rungS 2#32 t (rungS 4#32 t (rungS 8#32 t (rungS 16#32 t (rungS 32#32 t (rungS 64#32 t (rungS 128#32 t 0#32))))))))

/-- Where the scale is one. -/
def isOneS (a t : EReal) : BitVec 1 :=
  IntOp.ori (IntOp.ori (IntOp.cmpi .eq (fieldS t) 0#32) (IntOp.cmpi .eq (fieldS t) 255#32))
    (FloatOps.cmpf (F := Ideal) (φ := .f32) .oeq a (Ideal.ofBits .f32 0x00000000#32))

/-- The scale, -/
def scaleS (a t : EReal) : EReal :=
  Scalar.select (isOneS a t) (Ideal.ofBits .f32 0x3F800000#32)
    (Ideal.ofBits .f32 (IntOp.shli .vector (IntOp.addi (fieldS t) 1#32) 23#32))
/-- and the inverse scale. -/
def invS (a t : EReal) : EReal :=
  Scalar.select (isOneS a t) (Ideal.ofBits .f32 0x3F800000#32)
    (Ideal.ofBits .f32 (IntOp.shli .vector (IntOp.subi 253#32 (fieldS t)) 23#32))

/-- The largest magnitude of a column. -/
def colMax (f : Fin 1536 → EReal) : EReal := Finset.univ.fold max (Ideal.ofBits .bf16 0xFF80#16) fun k => max (f k) (-f k)
/-- A column's scale, -/
def colScale (k : BitVec 32) (f : Fin 1536 → EReal) : EReal := scaleS (colMax f) (colMax f * Ideal.ofBits .f32 k)
/-- and entry `i` of the column scaled and clipped. -/
def colQuant (k lo hi : BitVec 32) (f : Fin 1536 → EReal) (i : Fin 1536) : EReal :=
  min (Ideal.ofBits .f32 hi) (max (Ideal.ofBits .f32 lo) (f i * invS (colMax f) (colMax f * Ideal.ofBits .f32 k)))

/-- A column of `x`, quantised, and its scale. -/
abbrev xqS (f : Fin 1536 → EReal) (i : Fin 1536) : EReal := colQuant 0x3B124925#32 0xC3E00000#32 0x43E00000#32 f i
abbrev sxS (f : Fin 1536 → EReal) : EReal := colScale 0x3B124925#32 f
/-- A column of `dy`, quantised, and its scale. -/
abbrev yqS (f : Fin 1536 → EReal) (i : Fin 1536) : EReal := colQuant 0x37924925#32 0xC7600000#32 0x47600000#32 f i
abbrev syS (f : Fin 1536 → EReal) : EReal := colScale 0x37924925#32 f

/-- The scaled product of a column `f` of `dy` with a column `g` of `x`. -/
def prodS (f g : Fin 1536 → EReal) : EReal := (∑ i, yqS f i * xqS g i) * syS f * sxS g

/-- A weight over its step size, -/
def vS (w s : EReal) : EReal := w * Ideal.div (Ideal.ofBits .f32 0x3F800000#32) s
/-- clipped to the codes' range, -/
def clipS (v : EReal) : EReal := min (Ideal.ofBits .f32 0x40E00000#32) (max (Ideal.ofBits .f32 0xC1000000#32) v)
/-- its code, -/
def codeS (v : EReal) : EReal := Ideal.liftRound Ideal.roundHalfEven (clipS v)
/-- and its factor in the step size's gradient. -/
def factS (v : EReal) : EReal := codeS v - (if clipS v = v then v else 0)

/-- An entry of the weights' gradient. -/
def dwS (f g : Fin 1536 → EReal) (w s : EReal) : EReal := if clipS (vS w s) = vS w s then prodS f g else 0

/-- An entry of the step sizes' gradient. -/
def dsS (f : Fin 1536 → EReal) (x : Fin 1024 → Fin 1536 → EReal) (w : Fin 1024 → EReal) (s : EReal) : EReal :=
  Ideal.ofBits .f32 0x3C41848F#32 * ∑ l, factS (vS (w l) s) * prodS f (x l)

/-- A weight's code as a byte. -/
def byteS (w s : EReal) : BitVec 8 := (Ideal.fptosi 32 (codeS (vS w s))).setWidth 8
/-- Two codes in a byte. -/
def pairS (p q : BitVec 8) : BitVec 8 := (p &&& 15#8) ||| ((q &&& 15#8) <<< 4)

end Cert.KernelIdeal.Body

end
-- ==== Proof.Cols.lean ====
/- The kernel's quantised columns and their scales, at an index. -/
module

public import proofs.«01_k».proof.Proof.Spec

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

theorem rung_apply (k : BitVec 32) (t : FVec Ideal S1x128 .f32) (ex : IVec S1x128 32) (j : S1x128.Idx) :
    rung k t ex j = rungS k (t j) (ex j) := rfl
theorem field_apply (t : FVec Ideal S1x128 .f32) (j : S1x128.Idx) : field t j = fieldS (t j) := by
  unfold field fieldS
  show Scalar.select _ _ (rung _ _ _ j) = _
  simp only [rung_apply]
  rfl
theorem isOne_apply (a t : FVec Ideal S1x128 .f32) (j : S1x128.Idx) : isOne a t j = isOneS (a j) (t j) := by
  unfold isOne isOneS
  rw [← field_apply]; rfl
theorem scaleOf_apply (a t : FVec Ideal S1x128 .f32) (j : S1x128.Idx) : scaleOf a t j = scaleS (a j) (t j) := by
  unfold scaleOf scaleS
  rw [← field_apply, ← isOne_apply]; rfl
theorem invOf_apply (a t : FVec Ideal S1x128 .f32) (j : S1x128.Idx) : invOf a t j = invS (a j) (t j) := by
  unfold invOf invS
  rw [← field_apply, ← isOne_apply]; rfl
theorem amax_apply (v : FVec Ideal S1536x128 .bf16) (l : Fin 128) : amax v (ix2 0 l) = colMax fun i => v (ix2 i l) := by
  pointwise [amax, colMax]
  rfl
theorem scale_tile (k : BitVec 32) (v : FVec Ideal S1536x128 .bf16) (l : Fin 128) :
    scaleOf (amax v) (tOf k v) (ix2 0 l) = colScale k fun i => v (ix2 i l) := by
  rw [scaleOf_apply]
  pointwise [tOf, amax_apply, colScale]
theorem clipped_apply (k lo hi : BitVec 32) (v : FVec Ideal S1536x128 .bf16) (i : Fin 1536) (l : Fin 128) :
    clipped k lo hi v (ix2 i l) = colQuant k lo hi (fun i => v (ix2 i l)) i := by
  pointwise [clipped, invOf_apply, tOf, amax_apply, colQuant]
theorem xChunk_apply (v : Vec Ideal S1536x128 .bf16) (j : S1536x128.Idx) : xChunk v j = v j := by
  pointwise [xChunk]

end Cert.KernelIdeal.Body

end
-- ==== Proof.Blocks.lean ====
/- The kernel's blocks, at an index. -/
module

public import proofs.«01_k».proof.Proof.Cols

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! Where a chunk or a tile sits in its block. -/

theorem emb_colX (c : Fin 8) (i : Fin 1536) (l : Fin 128) : (colX c).emb (ix2 i l) = ix2 i ⟨128 * c.val + l.val, by omega⟩ :=
  funext (Fin.forall_fin_two.mpr ⟨Fin.ext (by show 0 + 1 * i.val = i.val; omega), Fin.ext (by show 128 * c.val + 1 * l.val = 128 * c.val + l.val; omega)⟩)
theorem emb_colSx (c : Fin 8) (i : Fin 1) (l : Fin 128) : (colSx c).emb (ix2 i l) = ix2 i ⟨128 * c.val + l.val, by omega⟩ :=
  funext (Fin.forall_fin_two.mpr ⟨Fin.ext (by show 0 + 1 * i.val = i.val; omega), Fin.ext (by show 128 * c.val + 1 * l.val = 128 * c.val + l.val; omega)⟩)
theorem emb_colY (c : Fin 2) (i : Fin 1536) (l : Fin 128) : (colY c).emb (ix2 i l) = ix2 i ⟨128 * c.val + l.val, by omega⟩ :=
  funext (Fin.forall_fin_two.mpr ⟨Fin.ext (by show 0 + 1 * i.val = i.val; omega), Fin.ext (by show 128 * c.val + 1 * l.val = 128 * c.val + l.val; omega)⟩)
theorem emb_colSy (c : Fin 2) (i : Fin 1) (l : Fin 128) : (colSy c).emb (ix2 i l) = ix2 i ⟨128 * c.val + l.val, by omega⟩ :=
  funext (Fin.forall_fin_two.mpr ⟨Fin.ext (by show 0 + 1 * i.val = i.val; omega), Fin.ext (by show 128 * c.val + 1 * l.val = 128 * c.val + l.val; omega)⟩)
theorem emb_tileW (r c : Fin 8) (i : Fin 32) (l : Fin 128) :
    (tileW r c).emb (ix2 i l) = ix2 ⟨32 * r.val + i.val, by omega⟩ ⟨128 * c.val + l.val, by omega⟩ :=
  funext (Fin.forall_fin_two.mpr ⟨Fin.ext (by show 32 * r.val + 1 * i.val = 32 * r.val + i.val; omega), Fin.ext (by show 128 * c.val + 1 * l.val = 128 * c.val + l.val; omega)⟩)
theorem emb_tileP (r : Fin 8) (c : Fin 4) (i : Fin 32) (l : Fin 128) :
    (tileP r c).emb (ix2 i l) = ix2 ⟨32 * r.val + i.val, by omega⟩ ⟨128 * c.val + l.val, by omega⟩ :=
  funext (Fin.forall_fin_two.mpr ⟨Fin.ext (by show 32 * r.val + 1 * i.val = 32 * r.val + i.val; omega), Fin.ext (by show 128 * c.val + 1 * l.val = 128 * c.val + l.val; omega)⟩)

/-! The quantised blocks and the scales. -/

theorem XQ_apply (x : Vec Ideal S1536x1024 .bf16) (i : Fin 1536) (l : Fin 1024) :
    XQ x (ix2 i l) = xqS (fun i => x (ix2 i l)) i := by
  refine View.canon_apply_of_pieces (fun j => xqS (fun i => x (ix2 i (j (1 : Fin 2)))) (j (0 : Fin 2))) _ ?_ _ (cover_xq x _)
  intro p hp
  obtain ⟨c, -, rfl⟩ := List.mem_map.mp hp
  refine fun (j : S1536x128.Idx) => ?_
  obtain ⟨a, b, rfl⟩ : ∃ (a : Fin 1536) (b : Fin 128), j = ix2 a b := ⟨_, _, eq_ix2 j⟩
  rw [emb_colX]
  pointwise [xqTile, clipped_apply, xChunk_apply]

theorem SX_apply (x : Vec Ideal S1536x1024 .bf16) (l : Fin 1024) : SX x (ix2 0 l) = sxS (fun i => x (ix2 i l)) := by
  refine View.canon_apply_of_pieces (fun j => sxS (fun i => x (ix2 i (j (1 : Fin 2))))) _ ?_ _ (cover_sx x _)
  intro p hp
  obtain ⟨c, -, rfl⟩ := List.mem_map.mp hp
  refine fun (j : S1x128.Idx) => ?_
  obtain ⟨b, rfl⟩ : ∃ (b : Fin 128), j = ix2 0 b := ⟨j 1, (eq_ix2 j).trans (congrArg (ix2 · (j 1)) (Subsingleton.elim (α := Fin 1) _ _))⟩
  rw [emb_colSx]
  pointwise [sxTile, scale_tile, xChunk_apply]

theorem YQ_apply (y : Vec Ideal S1536x256 .bf16) (i : Fin 1536) (l : Fin 256) :
    YQ y (ix2 i l) = yqS (fun i => y (ix2 i l)) i := by
  refine View.canon_apply_of_pieces (fun j => yqS (fun i => y (ix2 i (j (1 : Fin 2)))) (j (0 : Fin 2))) _ ?_ _ (cover_yq y _)
  intro p hp
  obtain ⟨c, -, rfl⟩ := List.mem_map.mp hp
  refine fun (j : S1536x128.Idx) => ?_
  obtain ⟨a, b, rfl⟩ : ∃ (a : Fin 1536) (b : Fin 128), j = ix2 a b := ⟨_, _, eq_ix2 j⟩
  rw [emb_colY]
  pointwise [yqTile, clipped_apply, xChunk_apply]

theorem syTile_apply (v : Vec Ideal S1536x128 .bf16) (l : Fin 128) : syTile v (ix2 0 l) = syS (fun i => v (ix2 i l)) := by
  pointwise [syTile, scale_tile, xChunk_apply]

theorem SY_apply (y : Vec Ideal S1536x256 .bf16) (l : Fin 256) : SY y (ix2 0 l) = syS (fun i => y (ix2 i l)) := by
  refine View.canon_apply_of_pieces (fun j => syS (fun i => y (ix2 i (j (1 : Fin 2))))) _ ?_ _ (cover_sy y _)
  intro p hp
  obtain ⟨c, -, rfl⟩ := List.mem_map.mp hp
  refine fun (j : S1x128.Idx) => ?_
  obtain ⟨b, rfl⟩ : ∃ (b : Fin 128), j = ix2 0 b := ⟨j 1, (eq_ix2 j).trans (congrArg (ix2 · (j 1)) (Subsingleton.elim (α := Fin 1) _ _))⟩
  rw [emb_colSy]
  pointwise [syTile_apply]

theorem ACC_apply (y : Vec Ideal S1536x256 .bf16) (x : Vec Ideal S1536x1024 .bf16) (r : Fin 256) (l : Fin 1024) :
    ACC (YQ y) (XQ x) (ix2 r l) = ∑ i, yqS (fun i => y (ix2 i r)) i * xqS (fun i => x (ix2 i l)) i := by
  pointwise [ACC, YQ_apply, XQ_apply]

/-! The tiles. -/

section Tile

variable (y : Vec Ideal S1536x256 .bf16) (w : Vec Ideal S256x1024 .f32) (s : Vec Ideal S1x256 .f32) (x : Vec Ideal S1536x1024 .bf16)

/-- A row of the block, from its tile. -/
theorem row_eq (r : Fin 8) (a : Fin 32) (h : 128 * (r.val / 4) + (32 * (r.val % 4) + a.val) < 256) (h' : 32 * r.val + a.val < 256) :
    (⟨128 * (r.val / 4) + (32 * (r.val % 4) + a.val), h⟩ : Fin 256) = ⟨32 * r.val + a.val, h'⟩ := Fin.ext (by
  show 128 * (r.val / 4) + (32 * (r.val % 4) + a.val) = 32 * r.val + a.val; omega)

theorem tV_apply (r c : Fin 8) (a : Fin 32) (b : Fin 128) : tV w s r c (ix2 a b)
    = vS (w (ix2 ⟨32 * r.val + a.val, by omega⟩ ⟨128 * c.val + b.val, by omega⟩)) (s (ix2 0 ⟨32 * r.val + a.val, by omega⟩)) := by
  pointwise [tV, rowsOf, downRows, invRows, vS]
  rw [row_eq]

theorem tC_apply (r c : Fin 8) (a : Fin 32) (b : Fin 128) : tC w s r c (ix2 a b) = clipS (tV w s r c (ix2 a b)) := by
  pointwise [tC, clipS]
theorem tQ_apply (r c : Fin 8) (a : Fin 32) (b : Fin 128) : tQ w s r c (ix2 a b) = codeS (tV w s r c (ix2 a b)) := by
  unfold codeS; rw [← tC_apply]; rfl
theorem tF_apply (r c : Fin 8) (a : Fin 32) (b : Fin 128) : tF w s r c (ix2 a b) = factS (tV w s r c (ix2 a b)) := by
  pointwise [tF, tIn, tQ_apply, tC_apply, factS]

theorem tD_apply (r c : Fin 8) (a : Fin 32) (b : Fin 128) : tD y (ACC (YQ y) (XQ x)) (SX x) r c (ix2 a b)
    = prodS (fun i => y (ix2 i ⟨32 * r.val + a.val, by omega⟩)) (fun i => x (ix2 i ⟨128 * c.val + b.val, by omega⟩)) := by
  pointwise [tD, rowsOf, downRows, syTile_apply, SX_apply, ACC_apply, prodS]
  exact congrArg (· * _) (congrArg (_ * ·) (congrArg (fun R => syS fun i => y (ix2 i R)) (row_eq r a _ _)))

theorem DW_apply (r : Fin 256) (l : Fin 1024) : DW y w s (XQ x) (SX x) (ix2 r l)
    = dwS (fun i => y (ix2 i r)) (fun i => x (ix2 i l)) (w (ix2 r l)) (s (ix2 0 r)) := by
  refine View.canon_apply_of_pieces (fun j => dwS (fun i => y (ix2 i (j (0 : Fin 2)))) (fun i => x (ix2 i (j (1 : Fin 2)))) (w j)
    (s (ix2 0 (j (0 : Fin 2))))) _ ?_ _ (cover_dw y w s _ _ _)
  intro p hp
  obtain ⟨⟨r, c⟩, -, rfl⟩ := List.mem_map.mp hp
  refine fun (j : S32x128.Idx) => ?_
  obtain ⟨a, b, rfl⟩ : ∃ (a : Fin 32) (b : Fin 128), j = ix2 a b := ⟨_, _, eq_ix2 j⟩
  rw [emb_tileW]
  pointwise [tDw, tIn, tC_apply, tV_apply, tD_apply, dwS]

end Tile

end Cert.KernelIdeal.Body

end
-- ==== Proof.StepGrad.lean ====
/- The step sizes' gradient of a block, at an index. -/
module

public import proofs.«01_k».proof.Proof.Blocks

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-- A sum over 1024 columns, by lanes of 128 and then by chunks. -/
theorem sum_lanes (f : Fin 1024 → EReal) :
    ∑ l, f l = ∑ k : Fin 128, ∑ c : Fin 8, f ⟨128 * c.val + k.val, by omega⟩ := by
  rw [Finset.sum_comm]
  rw [← (finProdFinEquiv (m := 8) (n := 128)).sum_comp f, Fintype.sum_prod_type]
  refine Finset.sum_congr rfl fun c _ => Finset.sum_congr rfl fun k _ => congrArg f (Fin.ext ?_)
  show k.val + 128 * c.val = 128 * c.val + k.val
  omega

section Tile

variable (y : Vec Ideal S1536x256 .bf16) (w : Vec Ideal S256x1024 .f32) (s : Vec Ideal S1x256 .f32) (x : Vec Ideal S1536x1024 .bf16)
  (A : FVec Ideal S256x1024 .f32) (sx : Vec Ideal S1x1024 .f32)

theorem tAcc_apply (r : Fin 8) (a : Fin 32) (k : Fin 128) :
    tAcc y w s A sx r (ix2 a k) = ∑ c, tF w s r c (ix2 a k) * tD y A sx r c (ix2 a k) := by
  rw [Fin.sum_univ_eight]
  show (((((((Ideal.ofBits .f32 0x00000000#32 + _) + _) + _) + _) + _) + _) + _) + _ = _
  rw [Ideal.ofBits_zero_f32, zero_add]
  rfl

/-- Rows `32j … 32j+31` of four tiles stacked. -/
theorem stack_apply (T : Fin 4 → FVec Ideal S32x128 .f32) (j : Fin 4) (a : Fin 32) (k : Fin 128) :
    concatenate S128x128 0 [⟨S32x128, T 0⟩, ⟨S32x128, T 1⟩, ⟨S32x128, T 2⟩, ⟨S32x128, T 3⟩]
      concatenates_S32x128_S32x128_S32x128_S32x128_S128x128_d0 (ix2 ⟨32 * j.val + a.val, by omega⟩ k) = T j (ix2 a k) := by
  fin_cases j <;> pointwise
  all_goals
    split_ifs <;> first
      | omega
      | exact congrArg (fun z => T _ (ix2 z k)) (Fin.ext (by dsimp only; omega))

theorem tDs_apply (b : Fin 2) (k : Fin 128) (j : Fin 4) (a : Fin 32) (h : k.val = 32 * j.val + a.val) : tDs y w s A sx b (ix2 0 k)
    = Ideal.ofBits .f32 0x3C41848F#32 * ∑ l, tAcc y w s A sx (rowOf b j) (ix2 a l) := by
  have hk : (⟨32 * j.val + a.val, by omega⟩ : Fin 128) = k := Fin.ext h.symm
  have e := fun l => stack_apply (fun j => tAcc y w s A sx (rowOf b j)) j a l
  simp only [hk] at e
  unfold tDs
  generalize concatenate S128x128 0 _ _ = z at e ⊢
  pointwise [e]

theorem DS_apply (r : Fin 256) : DS y w s (XQ x) (SX x) (ix2 0 r)
    = dsS (fun i => y (ix2 i r)) (fun l i => x (ix2 i l)) (fun l => w (ix2 r l)) (s (ix2 0 r)) := by
  refine View.canon_apply_of_pieces (fun j => dsS (fun i => y (ix2 i (j (1 : Fin 2)))) (fun l i => x (ix2 i l))
    (fun l => w (ix2 (j (1 : Fin 2)) l)) (s (ix2 0 (j (1 : Fin 2))))) _ ?_ _ (cover_ds y w s _ _ _)
  intro p hp
  obtain ⟨c, -, rfl⟩ := List.mem_map.mp hp
  refine fun (j : S1x128.Idx) => ?_
  obtain ⟨b, rfl⟩ : ∃ (b : Fin 128), j = ix2 0 b := ⟨j 1, (eq_ix2 j).trans (congrArg (ix2 · (j 1)) (Subsingleton.elim (α := Fin 1) _ _))⟩
  rw [emb_colSy]
  obtain ⟨q, hq⟩ : ∃ q : Fin 4, b.val / 32 = q.val := ⟨⟨b.val / 32, by omega⟩, rfl⟩
  obtain ⟨a, ha⟩ : ∃ a : Fin 32, b.val % 32 = a.val := ⟨⟨b.val % 32, by omega⟩, rfl⟩
  have hR : ∀ h, (⟨32 * (rowOf c q).val + a.val, h⟩ : Fin 256) = ⟨128 * c.val + b.val, by omega⟩ :=
    fun h => Fin.ext (by show 32 * (4 * c.val + q.val) + a.val = 128 * c.val + b.val; omega)
  show tDs y w s (ACC (YQ y) (XQ x)) (SX x) c (ix2 0 b) = dsS _ _ _ _
  rw [tDs_apply y w s _ _ c b q a (by omega)]
  unfold dsS
  rw [sum_lanes]
  refine congrArg (_ * ·) (Finset.sum_congr rfl fun k _ => ?_)
  rw [tAcc_apply]
  refine Finset.sum_congr rfl fun e _ => ?_
  rw [tF_apply, tV_apply, tD_apply, hR]
  rfl

end Tile

end Cert.KernelIdeal.Body

end
-- ==== Proof.Pack.lean ====
/- The packed codes of a block, at an index. -/
module

public import proofs.«01_k».proof.Proof.StepGrad
public import Idealize.ShloMosaic.Lib.BitcastFour

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! The packing of two codes to a byte. -/

theorem gather_apply (p ix : IVec S8x128 32) (R : Fin 8) (l m : Fin 128) (h : (ix (ix2 R l)).toNat = m.val) :
    dynamicGather 1 p ix (ix2 R l) = p (ix2 R m) := by
  refine congrArg p (funext (Fin.forall_fin_two.mpr ⟨rfl, Fin.ext ?_⟩))
  show (ix (ix2 R l)).toNat % 128 = m.val
  rw [h]; omega

/-- The lanes gathered. -/
theorem lanes_even (R : Fin 8) (l : Fin 128) : (lanes k0_pay117 (ix2 R l)).toNat = if l.val < 64 then 2 * l.val else 2 * l.val - 127 := by
  pointwise [lanes, k0_pay117, k0_pay116]
  revert l; decide
theorem lanes_odd (R : Fin 8) (l : Fin 128) : (lanes k0_pay118 (ix2 R l)).toNat = if l.val < 64 then 2 * l.val + 1 else 2 * l.val - 128 := by
  pointwise [lanes, k0_pay118, k0_pay116]
  revert l; decide
theorem first_half (R : Fin 8) (l : Fin 128) : k0_pay116 (ix2 R l) = if l.val < 64 then 1#1 else 0#1 := by
  pointwise [k0_pay116]
  revert l; decide

/-- Word `l` of a row for the low half-bytes, -/
theorem low_apply (p q : IVec S8x128 32) (R : Fin 8) (l m : Fin 128) (hm : m.val = if l.val < 64 then 2 * l.val else 2 * l.val - 128) :
    select k0_pay116 (dynamicGather 1 p (lanes k0_pay117)) (dynamicGather 1 q (lanes k0_pay118)) (ix2 R l)
      = (if l.val < 64 then p else q) (ix2 R m) := by
  show Scalar.select _ _ _ = _
  rw [first_half]
  split_ifs at hm ⊢ with hl
  · exact gather_apply p _ R l m (by rw [lanes_even, if_pos hl, hm])
  · exact gather_apply q _ R l m (by rw [lanes_odd, if_neg hl, hm])

/-- and for the high. -/
theorem high_apply (p q : IVec S8x128 32) (R : Fin 8) (l m : Fin 128) (hm : m.val = if l.val < 64 then 2 * l.val + 1 else 2 * l.val - 127) :
    dynamicRotate 1 64#32 none (select k0_pay116 (dynamicGather 1 q (lanes k0_pay118)) (dynamicGather 1 p (lanes k0_pay117)))
      rotates_S8x128_d1 (ix2 R l) = (if l.val < 64 then p else q) (ix2 R m) := by
  generalize hz : select k0_pay116 (dynamicGather 1 q (lanes k0_pay118)) (dynamicGather 1 p (lanes k0_pay117)) = z
  have e : dynamicRotate 1 64#32 none z rotates_S8x128_d1 (ix2 R l) = z (ix2 R ⟨(l.val + 128 - 64) % 128, by omega⟩) := by
    pointwise
  rw [e, ← hz]
  show Scalar.select _ _ _ = _
  rw [first_half]
  by_cases hl : l.val < 64
  · rw [if_pos hl] at hm ⊢
    rw [if_neg (by show ¬ (l.val + 128 - 64) % 128 < 64; omega)]
    exact gather_apply p _ R _ m (by rw [lanes_even, if_neg (by show ¬ (l.val + 128 - 64) % 128 < 64; omega), hm]; show 2 * ((l.val + 128 - 64) % 128) - 127 = _; omega)
  · rw [if_neg hl] at hm ⊢
    rw [if_pos (by show (l.val + 128 - 64) % 128 < 64; omega)]
    exact gather_apply q _ R _ m (by rw [lanes_odd, if_pos (by show (l.val + 128 - 64) % 128 < 64; omega), hm]; show 2 * ((l.val + 128 - 64) % 128) + 1 = _; omega)

/-- Bit `b` of the four bytes of `0x0F` in a word. -/
theorem mask_bit : ∀ b : Fin 32, (252645135#32).getLsbD b.val = decide (b.val % 8 < 4) := by decide

/-- A word of packed codes: the low half-bytes of `u`, and those of `v` moved up. -/
theorem word_bit (u v : BitVec 32) (b k : Nat) (hb : b < 32) (hk : k = b % 8) :
    (IntOp.ori (IntOp.andi u 252645135#32) (IntOp.shli .vector (IntOp.andi v 252645135#32) 4#32)).getLsbD b
      = if k < 4 then u.getLsbD b else v.getLsbD (b - 4) := by
  have hs : IntOp.shli .vector (IntOp.andi v 252645135#32) 4#32 = (v &&& 252645135#32) <<< 4 := rfl
  rw [hs]
  show ((u &&& 252645135#32) ||| _).getLsbD b = _
  rw [BitVec.getLsbD_or, BitVec.getLsbD_shiftLeft, BitVec.getLsbD_and, BitVec.getLsbD_and, mask_bit ⟨b, hb⟩, mask_bit ⟨b - 4, by omega⟩]
  dsimp only
  split_ifs with h
  · have h1 : b % 8 < 4 := by omega
    have h2 : b < 4 ∨ ¬ (b - 4) % 8 < 4 := by omega
    rcases h2 with h2 | h2 <;> simp [h1, h2]
  · have h1 : ¬ b % 8 < 4 := by omega
    have h2 : (b - 4) % 8 < 4 := by omega
    have h3 : ¬ b < 4 := by omega
    simp [h1, h2, h3, hb]

theorem pair_bit (u v : BitVec 8) (k : Nat) (hk : k < 8) :
    (pairS u v).getLsbD k = if k < 4 then u.getLsbD k else v.getLsbD (k - 4) := by
  have m : ∀ i : Fin 8, (15#8).getLsbD i.val = decide (i.val < 4) := by decide
  unfold pairS
  rw [BitVec.getLsbD_or, BitVec.getLsbD_shiftLeft, BitVec.getLsbD_and, BitVec.getLsbD_and, m ⟨k, hk⟩, m ⟨k - 4, by omega⟩]
  dsimp only
  split_ifs with h
  · simp [h]
  · have h2 : k - 4 < 4 := by omega
    simp [h, h2, hk]

/-- Words read as bytes: bit `k` of row `i` is bit `8 (i % 4) + k` of word `i / 4`. -/
theorem bytes_bit (z : IVec S8x128 32) (i : Fin 32) (l : Fin 128) (R : Fin 8) (hR : R.val = i.val / 4) (k : Nat) (hk : k < 8) :
    (bitcast S32x128 8 z bitcasts_S8x128_w32_S32x128_w8 (ix2 i l)).getLsbD k = (z (ix2 R l)).getLsbD (8 * (i.val % 4) + k) := by
  rw [bitcast_getLsbD z _ _ k hk (by decide)]
  have e1 : (S32x128.row (ix2 i l) * 8 + k) % 32 = 8 * (i.val % 4) + k := by
    show (i.val * 8 + k) % 32 = _
    omega
  rw [e1]
  refine congrArg (fun j => (z j).getLsbD _) (funext fun c => ?_)
  match c with
  | ⟨0, _⟩ => exact Fin.ext ((Shape.Bitcasts.srcIdx_row _ _ _ _ ⟨0, Nat.zero_lt_two⟩ rfl).trans (by show (i.val * 8 + k) / 32 = R.val; omega))
  | ⟨1, _⟩ => exact Fin.ext (Shape.Bitcasts.srcIdx_other _ _ _ _ ⟨1, Nat.one_lt_two⟩ (by show ¬ 1 + 2 = 2; omega))

/-- Packing, at an index: lanes `m`, `m + 1` of the first operand for the first half of the lanes, of the second after. -/
theorem packed_apply (u v : IVec S32x128 8) (i : Fin 32) (l m n : Fin 128)
    (hm : m.val = if l.val < 64 then 2 * l.val else 2 * l.val - 128) (hn : n.val = m.val + 1) :
    packed (bitcast S8x128 32 u bitcasts_S32x128_w8_S8x128_w32) (bitcast S8x128 32 v bitcasts_S32x128_w8_S8x128_w32) (ix2 i l)
      = pairS ((if l.val < 64 then u else v) (ix2 i m)) ((if l.val < 64 then u else v) (ix2 i n)) := by
  obtain ⟨R, hR⟩ : ∃ R : Fin 8, R.val = i.val / 4 := ⟨⟨i.val / 4, by omega⟩, rfl⟩
  have word (z : IVec S32x128 8) (g : Fin 128) (b : Nat) (hb : b < 8) :
      (bitcast S8x128 32 z bitcasts_S32x128_w8_S8x128_w32 (ix2 R g)).getLsbD (8 * (i.val % 4) + b) = (z (ix2 i g)).getLsbD b :=
    (bitcast_8_32_getLsbD_ix2 z _ R g (8 * (i.val % 4) + b) (by omega) i (by omega)).trans (congrArg _ (by omega))
  refine BitVec.eq_of_getLsbD_eq fun k hk => ?_
  rw [pair_bit _ _ k hk]
  unfold packed
  rw [bytes_bit _ i l R hR k hk]
  show (IntOp.ori (IntOp.andi (select _ _ _ _) _) (IntOp.shli .vector (IntOp.andi (dynamicRotate _ _ _ _ _ _) _) _)).getLsbD _ = _
  rw [low_apply _ _ R l m hm, high_apply _ _ R l n (by rw [hn, hm]; split_ifs <;> omega)]
  refine (word_bit _ _ _ k (by omega) (by omega)).trans ?_
  split_ifs with h1 h2 h2
  · exact word u m k hk
  · exact word v m k hk
  · rw [show 8 * (i.val % 4) + k - 4 = 8 * (i.val % 4) + (k - 4) by omega]; exact word u n (k - 4) (by omega)
  · rw [show 8 * (i.val % 4) + k - 4 = 8 * (i.val % 4) + (k - 4) by omega]; exact word v n (k - 4) (by omega)

section Tile

variable (w : Vec Ideal S256x1024 .f32) (s : Vec Ideal S1x256 .f32)

theorem code_apply (r c : Fin 8) (a : Fin 32) (l : Fin 128) :
    trunci 8 (fptosi 32 (tQ w s r c)) natLt_8_32 (ix2 a l)
      = byteS (w (ix2 ⟨32 * r.val + a.val, by omega⟩ ⟨128 * c.val + l.val, by omega⟩)) (s (ix2 0 ⟨32 * r.val + a.val, by omega⟩)) := by
  show (Ideal.fptosi 32 (tQ w s r c (ix2 a l))).setWidth 8 = _
  rw [tQ_apply, tV_apply]
  rfl

theorem QP_apply (r : Fin 256) (j : Fin 512) : QP w s (ix2 r j)
    = pairS (byteS (w (ix2 r ⟨2 * j.val, by omega⟩)) (s (ix2 0 r))) (byteS (w (ix2 r ⟨2 * j.val + 1, by omega⟩)) (s (ix2 0 r))) := by
  refine View.canon_apply_of_pieces (fun i => pairS (byteS (w (ix2 (i (0 : Fin 2)) ⟨2 * (i (1 : Fin 2)).val, by have := (i (1 : Fin 2)).isLt; dsimp at this; omega⟩)) (s (ix2 0 (i (0 : Fin 2)))))
    (byteS (w (ix2 (i (0 : Fin 2)) ⟨2 * (i (1 : Fin 2)).val + 1, by have := (i (1 : Fin 2)).isLt; dsimp at this; omega⟩)) (s (ix2 0 (i (0 : Fin 2)))))) _ ?_ _ (cover_qp w s _)
  intro p hp
  obtain ⟨⟨r, h⟩, -, rfl⟩ := List.mem_map.mp hp
  refine fun (j : S32x128.Idx) => ?_
  obtain ⟨a, l, rfl⟩ : ∃ (a : Fin 32) (l : Fin 128), j = ix2 a l := ⟨_, _, eq_ix2 j⟩
  rw [emb_tileP]
  obtain ⟨m, hm⟩ : ∃ m : Fin 128, m.val = if l.val < 64 then 2 * l.val else 2 * l.val - 128 :=
    ⟨⟨if l.val < 64 then 2 * l.val else 2 * l.val - 128, by split_ifs <;> omega⟩, rfl⟩
  obtain ⟨n, hn⟩ : ∃ n : Fin 128, n.val = m.val + 1 := ⟨⟨m.val + 1, by split_ifs at hm <;> omega⟩, rfl⟩
  refine (packed_apply _ _ a l m n hm hn).trans ?_
  have col (f : Fin 1024 → EReal) {c c' : Fin 1024} (e : c.val = c'.val) (x : EReal) : byteS (f c) x = byteS (f c') x := by rw [Fin.ext e]
  split_ifs at hm ⊢ with hl
  · rw [code_apply, code_apply]
    exact congrArg₂ pairS (col (fun c => w (ix2 _ c)) (by show 128 * (2 * h.val) + m.val = 2 * (128 * h.val + l.val); omega) _)
      (col (fun c => w (ix2 _ c)) (by show 128 * (2 * h.val) + n.val = 2 * (128 * h.val + l.val) + 1; omega) _)
  · rw [code_apply, code_apply]
    exact congrArg₂ pairS (col (fun c => w (ix2 _ c)) (by show 128 * (2 * h.val + 1) + m.val = 2 * (128 * h.val + l.val); omega) _)
      (col (fun c => w (ix2 _ c)) (by show 128 * (2 * h.val + 1) + n.val = 2 * (128 * h.val + l.val) + 1; omega) _)

end Tile

end Cert.KernelIdeal.Body

end
-- ==== Proof.Head.lean ====
/- The head of the body: at the first point it quantises the block of `x`, at every other it finds it quantised. -/
module

public import proofs.«01_k».proof.Proof.Tiles
public import Idealize.ShloMosaic.Lib.Ring
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The branch of the body: the first point's. -/
abbrev cond0_0 (i : grid0.Coords) : Prop := k0_cond1 i = 1#1

/-- The first load of `dy`. -/
abbrev yHead : Rect S1536x256 := Rect.unit (s := S1536x256) ![0, 0] S1536x128.size inb_S1536x256_S1536x128_0_0

set_option maxHeartbeats 400000 in/-- Column chunk 0 of the block of `dy` as loaded, its largest magnitudes, `t` and the search's first step: what the body's
    head hands the rest. -/
theorem head_run (c : Dev nD) (i : grid0.Coords) (arg1 : Memref sig .tc .vmem S1536x1024 .bf16) (harg1 : arg1.IsWhole) (arg2 : Memref sig .tc .vmem S1536x256 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S1536x1024 .fp8e4m3) (harg7 : arg7.IsWhole) (arg8 : Memref sig .tc .vmem S1x1024 .f32) (harg8 : arg8.IsWhole) (arg9 : Memref sig .tc .vmem S1536x256 .fp8e5m2) (harg9 : arg9.IsWhole) (arg10 : Memref sig .tc .vmem S1x256 .f32) (harg10 : arg10.IsWhole) (arg11 : Memref sig .tc .vmem S256x512 .i8) (harg11 : arg11.IsWhole)
    (x0 : Vec F S1536x1024 .bf16) (x1 : Vec F S1536x256 .bf16) (d7 : Vec F S1536x1024 .fp8e4m3) (d8 : Vec F S1x1024 .f32)
    (hidle : ¬ cond0_0 i → d7 = XQ x0 ∧ d8 = SX x0) (E : Set ℕ)
    (K : (Σ' (v4 : FVec F S1536x128 .bf16) (v8 : FVec F S1x128 .f32) (v10 : FVec F S1x128 .f32) (v39 : IVec S1x128 32), IVec S1x128 32) → sProp 𝕄) :
    iprop(owns (c : Thread nD τ) arg1 fullShare x0 ∗ owns (c : Thread nD τ) arg2 fullShare x1 ∗ owns (c : Thread nD τ) arg7 fullShare d7
        ∗ owns (c : Thread nD τ) arg8 fullShare d8
        ∗ (iprop(owns (c : Thread nD τ) arg1 fullShare x0 ∗ owns (c : Thread nD τ) arg2 fullShare x1
            ∗ owns (c : Thread nD τ) arg7 fullShare (XQ x0) ∗ owns (c : Thread nD τ) arg8 fullShare (SX x0))
          -∗ K ⟨k0_pay90 (View.ld x1 yHead), k0_pay91 (View.ld x1 yHead), k0_pay92 (View.ld x1 yHead),
              k0_pay93 (View.ld x1 yHead), k0_pay94 (View.ld x1 yHead)⟩))
      ⊢ wp frame (wpE (defs₀ (F := F)) Variants.none c none) E (k0_part20_skel i arg1 harg1 arg2 harg2 arg3 harg3 arg4 harg4 arg5 harg5 arg6 harg6 arg7 harg7 arg8 harg8 arg9 harg9 arg10 harg10 arg11 harg11) K := by
  unfold k0_part20_skel
  by_cases hc0 : cond0_0 i
  · simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f6, %hf6, H6⟩, ⟨%f7, %hf7, H7⟩, Hk⟩
    obtain rfl := hf0; obtain rfl := hf1
    sl_exec (disch := first | sl_exact hc0)
    sl_step
    simp only [View.readAt_eq_ld]
    iapply Hk
    isplitl [H0]
    · iexists _; isplitr; swap; · iexact H0
      ipureintro; rfl
    isplitl [H1]
    · iexists _; isplitr; swap; · iexact H1
      ipureintro; rfl
    isplitl [H6]
    · iexists _; isplitr; swap; · iexact H6
      ipureintro; exact View.read_writes_eq_canon _ _ (xqPieces (View.read (Elt F) arg1.view f0)) (cover_xq _)
    iexists _; isplitr; swap; · iexact H7
    ipureintro; exact View.read_writes_eq_canon _ _ (sxPieces (View.read (Elt F) arg1.view f0)) (cover_sx _)
  · obtain ⟨rfl, rfl⟩ := hidle hc0
    unfold owns
    iintro ⟨⟨%f0, %hf0, H0⟩, ⟨%f1, %hf1, H1⟩, ⟨%f6, %hf6, H6⟩, ⟨%f7, %hf7, H7⟩, Hk⟩
    obtain rfl := hf0; obtain rfl := hf1
    sl_exec (disch := first | sl_exact hc0)
    sl_step
    simp only [View.readAt_eq_ld]
    iapply Hk
    isplitl [H0]
    · iexists _; isplitr; swap; · iexact H0
      ipureintro; rfl
    isplitl [H1]
    · iexists _; isplitr; swap; · iexact H1
      ipureintro; rfl
    isplitl [H6]
    · iexists _; isplitr; swap; · iexact H6
      ipureintro; exact hf6
    iexists _; isplitr; swap; · iexact H7
    ipureintro; exact hf7

end Cert.KernelIdeal.Body

end
-- ==== Proof.Run.lean ====
/- The body's triple: what it leaves in each output block, at every point. -/
module

public import proofs.«01_k».proof.Proof.Head
public import Idealize.ShloMosaic.Lib.Pipeline.Value
public import Idealize.ShloMosaic.Lib.Ring
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The body's triple: on whole staging memrefs, the inputs' at their contents, the quantised `x` and its scales at anything at the
    first point and at the block's at every other, the body leaves each output at its named contents. -/
theorem body_run (c : Dev nD) (i : grid0.Coords) (arg1 : Memref sig .tc .vmem S1536x1024 .bf16) (harg1 : arg1.IsWhole) (arg2 : Memref sig .tc .vmem S1536x256 .bf16) (harg2 : arg2.IsWhole) (arg3 : Memref sig .tc .vmem S256x1024 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S1536x1024 .fp8e4m3) (harg7 : arg7.IsWhole) (arg8 : Memref sig .tc .vmem S1x1024 .f32) (harg8 : arg8.IsWhole) (arg9 : Memref sig .tc .vmem S1536x256 .fp8e5m2) (harg9 : arg9.IsWhole) (arg10 : Memref sig .tc .vmem S1x256 .f32) (harg10 : arg10.IsWhole) (arg11 : Memref sig .tc .vmem S256x512 .i8) (harg11 : arg11.IsWhole)
    (x0 : Vec F S1536x1024 .bf16) (x1 : Vec F S1536x256 .bf16) (x2 : Vec F S256x1024 .f32) (x3 : Vec F S1x256 .f32)
    (d7 : Vec F S1536x1024 .fp8e4m3) (d8 : Vec F S1x1024 .f32)
    (hidle : ¬ cond0_0 i → d7 = XQ x0 ∧ d8 = SX x0) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare d7 ∗ owns (c : Thread nD τ) arg8 fullShare d8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (DW x1 x2 x3 (XQ x0) (SX x0)) ∗ owns (c : Thread nD τ) arg6 fullShare (DS x1 x2 x3 (XQ x0) (SX x0)) ∗ owns (c : Thread nD τ) arg7 fullShare (XQ x0) ∗ owns (c : Thread nD τ) arg8 fullShare (SX x0) ∗ owns (c : Thread nD τ) arg9 fullShare (YQ x1) ∗ owns (c : Thread nD τ) arg10 fullShare (SY x1) ∗ owns (c : Thread nD τ) arg11 fullShare (QP x2 x3)) -∗ K ⟨⟩))
      ⊢ wp frame (wpE (defs₀ (F := F)) Variants.none c none) E (cc0_lsq_bwd i arg1 harg1 arg2 harg2 arg3 harg3 arg4 harg4 arg5 harg5 arg6 harg6 arg7 harg7 arg8 harg8 arg9 harg9 arg10 harg10 arg11 harg11) K := by
  simp only [cc0_lsq_bwd_eq_skeleton]; unfold cc0_lsq_bwd_skel
  simp only [k0_part86_eq_skeleton]; unfold k0_part86_skel
  simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
  rw [wp_bind, wp_bind]
  iintro ⟨H0, H1, H2, H3, H4, H5, H6, H7, H8, H9, H10, Hk⟩
  iapply (head_run c i arg1 harg1 arg2 harg2 arg3 harg3 arg4 harg4 arg5 harg5 arg6 harg6 arg7 harg7 arg8 harg8 arg9 harg9 arg10 harg10 arg11 harg11 x0 x1 d7 d8 hidle E _)
  isplitl [H0]; · iexact H0
  isplitl [H1]; · iexact H1
  isplitl [H6]; · iexact H6
  isplitl [H7]; · iexact H7
  generalize XQ x0 = xq, SX x0 = sx
  iintro ⟨H0, H1, H6, H7⟩
  unfold owns
  icases H0 with ⟨%f0, %hf0, H0⟩
  icases H1 with ⟨%f1, %hf1, H1⟩
  icases H2 with ⟨%f2, %hf2, H2⟩
  icases H3 with ⟨%f3, %hf3, H3⟩
  icases H4 with ⟨%d4, %f4, -, H4⟩
  icases H5 with ⟨%d5, %f5, -, H5⟩
  icases H6 with ⟨%f6, %hf6, H6⟩
  icases H7 with ⟨%f7, %hf7, H7⟩
  icases H8 with ⟨%d8, %f8, -, H8⟩
  icases H9 with ⟨%d9, %f9, -, H9⟩
  icases H10 with ⟨%d10, %f10, -, H10⟩
  obtain rfl := hf0; obtain rfl := hf1; obtain rfl := hf2; obtain rfl := hf3; obtain rfl := hf6; obtain rfl := hf7
  sl_exec
  have hyq : body_run.sl.v229 c arg2 arg9 f1 = YQ (View.read (Elt F) arg2.view f1) :=
    (View.readCov_eq_canon_ld arg9.view (yqPieces (View.read (Elt F) arg2.view f1)) allY (cover_yq _)).trans
      (View.ld_unit_zero off00 _ _)
  have hacc : ACC (body_run.sl.v229 c arg2 arg9 f1) (View.ld (View.read (Elt F) arg7.view f6) allX) = ACC (YQ (View.read (Elt F) arg2.view f1)) (View.read (Elt F) arg7.view f6) :=
    congrArg₂ ACC hyq (View.ld_unit_zero off00 _ _)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact (View.read_writes_eq_canon _ _ (dwPieces (View.read (Elt F) arg2.view f1) (View.read (Elt F) arg3.view f2) (View.read (Elt F) arg4.view f3) (ACC (body_run.sl.v229 c arg2 arg9 f1) (View.ld (View.read (Elt F) arg7.view f6) allX)) (View.read (Elt F) arg8.view f7)) (cover_dw _ _ _ _ _)).trans
      (congrArg (fun A => View.canon (dwPieces _ _ _ A _)) hacc)
  isplitl [H5]
  · iexists _; isplitr; swap; · iexact H5
    ipureintro; exact (View.read_writes_eq_canon _ _ (dsPieces (View.read (Elt F) arg2.view f1) (View.read (Elt F) arg3.view f2) (View.read (Elt F) arg4.view f3) (ACC (body_run.sl.v229 c arg2 arg9 f1) (View.ld (View.read (Elt F) arg7.view f6) allX)) (View.read (Elt F) arg8.view f7)) (cover_ds _ _ _ _ _)).trans
      (congrArg (fun A => View.canon (dsPieces _ _ _ A _)) hacc)
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact View.read_writes_eq_canon _ _ (yqPieces (View.read (Elt F) arg2.view f1)) (cover_yq _)
  isplitl [H9]
  · iexists _; isplitr; swap; · iexact H9
    ipureintro; exact View.read_writes_eq_canon _ _ (syPieces (View.read (Elt F) arg2.view f1)) (cover_sy _)
  iexists _; isplitr; swap; · iexact H10
  ipureintro; exact View.read_writes_eq_canon _ _ (qpPieces (View.read (Elt F) arg3.view f2) (View.read (Elt F) arg4.view f3)) (cover_qp _ _)

end Cert.KernelIdeal.Body

end
-- ==== Proof.KFrame.lean ====
/- The kernel's frame, and what its arrays end at: the pipeline's proof data, each output's block named. -/
module

public import proofs.«01_k».proof.Proof.Run
public import Idealize.ShloMosaic.Lib.Ring
public import Idealize.ShloMosaic.Lib.WordCmp
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken at the first point alone. -/
theorem hcond0_0 : ∀ t : Fin cfg0.N, cond0_0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val = 0 ↔ t.val % 16 = 0 := by omega
    rw [e1]
    simp only [cond0_0, k0_cond1, e0]
    word_cmp
   : ∀ t : Fin grid0.N, cond0_0 (grid0.coords t) ↔ t.val = 0)

/-- The pipeline's proof data: after the body each input's buffer holds its block, each output's the named contents of the input
    blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => DW (iblk m c 1 t) (iblk m c 2 t) (iblk m c 3 t) (XQ (iblk m c 0 t)) (SX (iblk m c 0 t))
    | ⟨5, _⟩ => DS (iblk m c 1 t) (iblk m c 2 t) (iblk m c 3 t) (XQ (iblk m c 0 t)) (SX (iblk m c 0 t))
    | ⟨6, _⟩ => XQ (iblk m c 0 t)
    | ⟨7, _⟩ => SX (iblk m c 0 t)
    | ⟨8, _⟩ => YQ (iblk m c 1 t)
    | ⟨9, _⟩ => SY (iblk m c 1 t)
    | ⟨10, _⟩ => QP (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = DW (iblk m c 1 t) (iblk m c 2 t) (iblk m c 3 t) (XQ (iblk m c 0 t)) (SX (iblk m c 0 t)) := by dsimp only [dats]
theorem after0_5 (c : Dev nD) (t : Fin cfg0.N) : (dats m 0 c).after 5 t = DS (iblk m c 1 t) (iblk m c 2 t) (iblk m c 3 t) (XQ (iblk m c 0 t)) (SX (iblk m c 0 t)) := by dsimp only [dats]
theorem after0_6 (c : Dev nD) (t : Fin cfg0.N) : (dats m 0 c).after 6 t = XQ (iblk m c 0 t) := by dsimp only [dats]
theorem after0_7 (c : Dev nD) (t : Fin cfg0.N) : (dats m 0 c).after 7 t = SX (iblk m c 0 t) := by dsimp only [dats]
theorem after0_8 (c : Dev nD) (t : Fin cfg0.N) : (dats m 0 c).after 8 t = YQ (iblk m c 1 t) := by dsimp only [dats]
theorem after0_9 (c : Dev nD) (t : Fin cfg0.N) : (dats m 0 c).after 9 t = SY (iblk m c 1 t) := by dsimp only [dats]
theorem after0_10 (c : Dev nD) (t : Fin cfg0.N) : (dats m 0 c).after 10 t = QP (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The window of `x` is one block at every point. -/
theorem iblk0_const (c : Dev nD) (t t' : Fin cfg0.N) : iblk m c 0 t = iblk m c 0 t' := rfl

theorem idle0_6_iff (t : Fin cfg0.N) : cfg0.idle 6 (cfg0.grid.coords t) = true ↔ t.val ≠ 0 := by
  show (!(k0_cond1 (grid0.coords t) == 1#1)) = true ↔ _
  rw [Bool.not_eq_true', beq_eq_false_iff_ne, ne_eq, not_iff_not]; exact hcond0_0 t

/-- After the first point the output's buffer holds what the first point left in it. -/
theorem before0_6 (c : Dev nD) : ∀ (n : ℕ) (hn : n + 1 < cfg0.N) (d),
    (dats m 0 c).before 6 ⟨n + 1, hn⟩ d = XQ (iblk m c 0 ⟨n + 1, hn⟩)
  | n, hn, d => by
    have hN : cfg0.N = 16 := N_0
    have hf : (cfg0.win 6).flush ⟨n, Nat.lt_of_succ_lt hn⟩ = false :=
      Bool.eq_false_iff.mpr fun h => absurd ((flush0_6 _).mp h) (by show ¬ n % 16 = 15; omega)
    rw [Dat.before_of_pos _ 6 ⟨n + 1, hn⟩ (Nat.succ_ne_zero n) rfl d]
    rw [if_neg (by show ¬ (cfg0.win 6).flush ⟨n, _⟩ = true; rw [hf]; exact Bool.false_ne_true)]
    show Dat.left (dats m 0 c) 6 ⟨n, Nat.lt_of_succ_lt hn⟩ d = _
    unfold Dat.left
    match n, hn with
    | 0, hn =>
      rw [show cfg0.idle 6 (cfg0.grid.coords ⟨0, Nat.lt_of_succ_lt hn⟩) = false from
        Bool.eq_false_iff.mpr fun h => absurd rfl ((idle0_6_iff _).mp h)]
      show (dats m 0 c).after 6 ⟨0, _⟩ = _
      rw [after0_6, iblk0_const m c ⟨0, Nat.lt_of_succ_lt hn⟩ ⟨0 + 1, hn⟩]
    | n + 1, hn =>
      rw [show cfg0.idle 6 (cfg0.grid.coords ⟨n + 1, Nat.lt_of_succ_lt hn⟩) = true from (idle0_6_iff _).mpr (Nat.succ_ne_zero n)]
      show (dats m 0 c).before 6 ⟨n + 1, _⟩ d = _
      rw [before0_6 c n (by omega) d, iblk0_const m c ⟨n + 1, Nat.lt_of_succ_lt hn⟩ ⟨n + 1 + 1, hn⟩]

theorem before0_6' (c : Dev nD) (t : Fin cfg0.N) (ht : t.val ≠ 0) (d) : (dats m 0 c).before 6 t d = XQ (iblk m c 0 t) := by
  obtain ⟨v, hv⟩ := t
  obtain ⟨n, rfl⟩ := Nat.exists_eq_succ_of_ne_zero ht
  exact before0_6 m c n hv d

/-- The contents named are what the body's obligation asks of the window, at the first point and at every other. -/
theorem leaves0_6 (c : Dev nD) (t : Fin cfg0.N) :
    owns (c : Thread nD τ) (st0_6 t) fullShare (XQ (iblk m c 0 t)) ⊢ (dats m 0 c).leavesExact 6 t := by
  unfold Dat.leavesExact
  cases hi : cfg0.idle 6 (cfg0.grid.coords t)
  · exact .of_eq (by rw [after0_6])
  · cases hf : (cfg0.win 6).flush t
    · refine .trans ?_ (exists_intro (Φ := fun d => owns (c : Thread nD τ) (st0_6 t) fullShare ((dats m 0 c).before 6 t d)) (XQ (iblk m c 0 t)))
      rw [before0_6' m c t ((idle0_6_iff t).mp hi)]
    · exact .of_eq (by rw [after0_6])

theorem idle0_7_iff (t : Fin cfg0.N) : cfg0.idle 7 (cfg0.grid.coords t) = true ↔ t.val ≠ 0 := by
  show (!(k0_cond1 (grid0.coords t) == 1#1)) = true ↔ _
  rw [Bool.not_eq_true', beq_eq_false_iff_ne, ne_eq, not_iff_not]; exact hcond0_0 t

/-- After the first point the output's buffer holds what the first point left in it. -/
theorem before0_7 (c : Dev nD) : ∀ (n : ℕ) (hn : n + 1 < cfg0.N) (d),
    (dats m 0 c).before 7 ⟨n + 1, hn⟩ d = SX (iblk m c 0 ⟨n + 1, hn⟩)
  | n, hn, d => by
    have hN : cfg0.N = 16 := N_0
    have hf : (cfg0.win 7).flush ⟨n, Nat.lt_of_succ_lt hn⟩ = false :=
      Bool.eq_false_iff.mpr fun h => absurd ((flush0_7 _).mp h) (by show ¬ n % 16 = 15; omega)
    rw [Dat.before_of_pos _ 7 ⟨n + 1, hn⟩ (Nat.succ_ne_zero n) rfl d]
    rw [if_neg (by show ¬ (cfg0.win 7).flush ⟨n, _⟩ = true; rw [hf]; exact Bool.false_ne_true)]
    show Dat.left (dats m 0 c) 7 ⟨n, Nat.lt_of_succ_lt hn⟩ d = _
    unfold Dat.left
    match n, hn with
    | 0, hn =>
      rw [show cfg0.idle 7 (cfg0.grid.coords ⟨0, Nat.lt_of_succ_lt hn⟩) = false from
        Bool.eq_false_iff.mpr fun h => absurd rfl ((idle0_7_iff _).mp h)]
      show (dats m 0 c).after 7 ⟨0, _⟩ = _
      rw [after0_7, iblk0_const m c ⟨0, Nat.lt_of_succ_lt hn⟩ ⟨0 + 1, hn⟩]
    | n + 1, hn =>
      rw [show cfg0.idle 7 (cfg0.grid.coords ⟨n + 1, Nat.lt_of_succ_lt hn⟩) = true from (idle0_7_iff _).mpr (Nat.succ_ne_zero n)]
      show (dats m 0 c).before 7 ⟨n + 1, _⟩ d = _
      rw [before0_7 c n (by omega) d, iblk0_const m c ⟨n + 1, Nat.lt_of_succ_lt hn⟩ ⟨n + 1 + 1, hn⟩]

theorem before0_7' (c : Dev nD) (t : Fin cfg0.N) (ht : t.val ≠ 0) (d) : (dats m 0 c).before 7 t d = SX (iblk m c 0 t) := by
  obtain ⟨v, hv⟩ := t
  obtain ⟨n, rfl⟩ := Nat.exists_eq_succ_of_ne_zero ht
  exact before0_7 m c n hv d

/-- The contents named are what the body's obligation asks of the window, at the first point and at every other. -/
theorem leaves0_7 (c : Dev nD) (t : Fin cfg0.N) :
    owns (c : Thread nD τ) (st0_7 t) fullShare (SX (iblk m c 0 t)) ⊢ (dats m 0 c).leavesExact 7 t := by
  unfold Dat.leavesExact
  cases hi : cfg0.idle 7 (cfg0.grid.coords t)
  · exact .of_eq (by rw [after0_7])
  · cases hf : (cfg0.win 7).flush t
    · refine .trans ?_ (exists_intro (Φ := fun d => owns (c : Thread nD τ) (st0_7 t) fullShare ((dats m 0 c).before 7 t d)) (SX (iblk m c 0 t)))
      rw [before0_7' m c t ((idle0_7_iff t).mp hi)]
    · exact .of_eq (by rw [after0_7])

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  rw [show (dats m 0 c).leavesExact 2 t = owns (c : Thread nD τ) (st0_2 t) fullShare ((dats m 0 c).after 2 t) from rfl, after0_2]
  rw [show (dats m 0 c).leavesExact 3 t = owns (c : Thread nD τ) (st0_3 t) fullShare ((dats m 0 c).after 3 t) from rfl, after0_3]
  rw [show (dats m 0 c).leavesExact 4 t = owns (c : Thread nD τ) (st0_4 t) fullShare ((dats m 0 c).after 4 t) from rfl, after0_4]
  rw [show (dats m 0 c).leavesExact 5 t = owns (c : Thread nD τ) (st0_5 t) fullShare ((dats m 0 c).after 5 t) from rfl, after0_5]
  rw [show (dats m 0 c).leavesExact 8 t = owns (c : Thread nD τ) (st0_8 t) fullShare ((dats m 0 c).after 8 t) from rfl, after0_8]
  rw [show (dats m 0 c).leavesExact 9 t = owns (c : Thread nD τ) (st0_9 t) fullShare ((dats m 0 c).after 9 t) from rfl, after0_9]
  rw [show (dats m 0 c).leavesExact 10 t = owns (c : Thread nD τ) (st0_10 t) fullShare ((dats m 0 c).after 10 t) from rfl, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) _ _ _ _ _ _ _ _ _ _ _ _ _ _ _ _ _ _ _ _ _ _ (iblk m c 0 t) (iblk m c 1 t) (iblk m c 2 t) (iblk m c 3 t) _ _
    (fun h => ⟨before0_6' m c t (fun e => h ((hcond0_0 t).mpr e)) d6, before0_7' m c t (fun e => h ((hcond0_0 t).mpr e)) d7⟩) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves0_6 m c t); iexact H6
  isplitl [H7]; · iapply (leaves0_7 m c t); iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Arrays.lean ====
/- The kernel's result arrays after the run. -/
module

public import proofs.«01_k».proof.Proof.Pack
public import proofs.«01_k».proof.Proof.KFrame
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! The arguments as the kernel's body is given them. -/

/-- `x` as a matrix of tokens, -/
def xA (a : Vec Ideal S2x768x1024 .bf16) : Vec Ideal S1536x1024 .bf16 := shapeCast S1536x1024 a shapeCasts_S2x768x1024_S1536x1024
/-- and `dy`, -/
def yA (a : Vec Ideal S2x768x4096 .bf16) : Vec Ideal S1536x4096 .bf16 := shapeCast S1536x4096 a shapeCasts_S2x768x4096_S1536x4096
/-- and the step sizes as a row. -/
def sA (a : Vec Ideal S4096 .f32) : Vec Ideal S1x4096 .f32 := shapeCast S1x4096 a shapeCasts_S4096_S1x4096

variable (m : (ℓ : Loc nD τ sig) → Buf (Elt Ideal) ℓ) (c : Dev nD)

abbrev xM : Vec Ideal S1536x1024 .bf16 := xA (m ((c : Thread nD τ).loc main_arg0))
abbrev yM : Vec Ideal S1536x4096 .bf16 := yA (m ((c : Thread nD τ).loc main_arg1))
abbrev wM : Vec Ideal S4096x1024 .f32 := m ((c : Thread nD τ).loc main_arg2)
abbrev sM : Vec Ideal S1x4096 .f32 := sA (m ((c : Thread nD τ).loc main_arg3))

theorem V_x : V m c main_v0 = xM m c := by
  funext j
  entry_read
  rfl
theorem V_y : V m c main_v1 = yM m c := by
  funext j
  entry_read
  rfl
theorem V_s : V m c main_v2 = sM m c := by
  funext j
  entry_read
  rfl

theorem t_lt (t : Fin cfg0.N) : t.val < 16 := t.isLt.trans_eq N_0

/-! Where the windows lie: an index map, then the array's index of an index of a block. -/

theorem ix_0 : ∀ t : Fin cfg0.N, win0_0.index t = ![0, 0] := (by decide +kernel : ∀ t : Fin grid0.N, win0_0.index t = ![0, 0])
theorem ix_1 : ∀ t : Fin cfg0.N, win0_1.index t = ![0, t.val] := (by decide +kernel : ∀ t : Fin grid0.N, win0_1.index t = ![0, t.val])
theorem ix_2 : ∀ t : Fin cfg0.N, win0_2.index t = ![t.val, 0] := (by decide +kernel : ∀ t : Fin grid0.N, win0_2.index t = ![t.val, 0])
theorem ix_3 : ∀ t : Fin cfg0.N, win0_3.index t = ![0, t.val] := (by decide +kernel : ∀ t : Fin grid0.N, win0_3.index t = ![0, t.val])
theorem ix_4 : ∀ t : Fin cfg0.N, win0_4.index t = ![t.val, 0] := (by decide +kernel : ∀ t : Fin grid0.N, win0_4.index t = ![t.val, 0])
theorem ix_5 : ∀ t : Fin cfg0.N, win0_5.index t = ![0, t.val] := (by decide +kernel : ∀ t : Fin grid0.N, win0_5.index t = ![0, t.val])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem ix_8 : ∀ t : Fin cfg0.N, win0_8.index t = ![0, t.val] := (by decide +kernel : ∀ t : Fin grid0.N, win0_8.index t = ![0, t.val])
theorem ix_9 : ∀ t : Fin cfg0.N, win0_9.index t = ![0, t.val] := (by decide +kernel : ∀ t : Fin grid0.N, win0_9.index t = ![0, t.val])
theorem ix_10 : ∀ t : Fin cfg0.N, win0_10.index t = ![t.val, 0] := (by decide +kernel : ∀ t : Fin grid0.N, win0_10.index t = ![t.val, 0])

theorem emb_0 (t : Fin cfg0.N) (i : Fin 1536) (l : Fin 1024) : (win0_0.blk t).view.emb (ix2 i l) = ix2 i l := by
  funext a
  refine Fin.ext ?_
  blk_simp [ix_0]
  revert a
  exact Fin.forall_fin_two.mpr ⟨by simp, by simp⟩
theorem emb_1 (t : Fin cfg0.N) (i : Fin 1536) (l : Fin 256) : (win0_1.blk t).view.emb (ix2 i l) = ix2 i ⟨256 * t.val + l.val, by have := t_lt t; omega⟩ := by
  funext a
  refine Fin.ext ?_
  blk_simp [ix_1]
  revert a
  exact Fin.forall_fin_two.mpr ⟨by simp, by simp; omega⟩
theorem emb_2 (t : Fin cfg0.N) (i : Fin 256) (l : Fin 1024) : (win0_2.blk t).view.emb (ix2 i l) = ix2 ⟨256 * t.val + i.val, by have := t_lt t; omega⟩ l := by
  funext a
  refine Fin.ext ?_
  blk_simp [ix_2]
  revert a
  exact Fin.forall_fin_two.mpr ⟨by simp; omega, by simp⟩
theorem emb_3 (t : Fin cfg0.N) (i : Fin 1) (l : Fin 256) : (win0_3.blk t).view.emb (ix2 i l) = ix2 i ⟨256 * t.val + l.val, by have := t_lt t; omega⟩ := by
  funext a
  refine Fin.ext ?_
  blk_simp [ix_3]
  revert a
  exact Fin.forall_fin_two.mpr ⟨by simp, by simp; omega⟩
theorem emb_4 (t : Fin cfg0.N) (i : Fin 256) (l : Fin 1024) : (win0_4.blk t).view.emb (ix2 i l) = ix2 ⟨256 * t.val + i.val, by have := t_lt t; omega⟩ l := by
  funext a
  refine Fin.ext ?_
  blk_simp [ix_4]
  revert a
  exact Fin.forall_fin_two.mpr ⟨by simp; omega, by simp⟩
theorem emb_5 (t : Fin cfg0.N) (i : Fin 1) (l : Fin 256) : (win0_5.blk t).view.emb (ix2 i l) = ix2 i ⟨256 * t.val + l.val, by have := t_lt t; omega⟩ := by
  funext a
  refine Fin.ext ?_
  blk_simp [ix_5]
  revert a
  exact Fin.forall_fin_two.mpr ⟨by simp, by simp; omega⟩
theorem emb_6 (t : Fin cfg0.N) (i : Fin 1536) (l : Fin 1024) : (win0_6.blk t).view.emb (ix2 i l) = ix2 i l := by
  funext a
  refine Fin.ext ?_
  blk_simp [ix_6]
  revert a
  exact Fin.forall_fin_two.mpr ⟨by simp, by simp⟩
theorem emb_7 (t : Fin cfg0.N) (i : Fin 1) (l : Fin 1024) : (win0_7.blk t).view.emb (ix2 i l) = ix2 i l := by
  funext a
  refine Fin.ext ?_
  blk_simp [ix_7]
  revert a
  exact Fin.forall_fin_two.mpr ⟨by simp, by simp⟩
theorem emb_8 (t : Fin cfg0.N) (i : Fin 1536) (l : Fin 256) : (win0_8.blk t).view.emb (ix2 i l) = ix2 i ⟨256 * t.val + l.val, by have := t_lt t; omega⟩ := by
  funext a
  refine Fin.ext ?_
  blk_simp [ix_8]
  revert a
  exact Fin.forall_fin_two.mpr ⟨by simp, by simp; omega⟩
theorem emb_9 (t : Fin cfg0.N) (i : Fin 1) (l : Fin 256) : (win0_9.blk t).view.emb (ix2 i l) = ix2 i ⟨256 * t.val + l.val, by have := t_lt t; omega⟩ := by
  funext a
  refine Fin.ext ?_
  blk_simp [ix_9]
  revert a
  exact Fin.forall_fin_two.mpr ⟨by simp, by simp; omega⟩
theorem emb_10 (t : Fin cfg0.N) (i : Fin 256) (l : Fin 512) : (win0_10.blk t).view.emb (ix2 i l) = ix2 ⟨256 * t.val + i.val, by have := t_lt t; omega⟩ l := by
  funext a
  refine Fin.ext ?_
  blk_simp [ix_10]
  revert a
  exact Fin.forall_fin_two.mpr ⟨by simp; omega, by simp⟩

/-! The input blocks, at an index. -/

theorem x_blk (t : Fin cfg0.N) (i : Fin 1536) (l : Fin 1024) : iblk m c 0 t (ix2 i l) = xM m c (ix2 i l) := by
  show V m c main_v0 ((win0_0.blk t).view.emb (ix2 i l)) = _
  rw [emb_0, V_x]
theorem y_blk (t : Fin cfg0.N) (i : Fin 1536) (l : Fin 256) : iblk m c 1 t (ix2 i l) = yM m c (ix2 i ⟨256 * t.val + l.val, by have := t_lt t; omega⟩) := by
  show V m c main_v1 ((win0_1.blk t).view.emb (ix2 i l)) = _
  rw [emb_1, V_y]
theorem w_blk (t : Fin cfg0.N) (i : Fin 256) (l : Fin 1024) : iblk m c 2 t (ix2 i l) = wM m c (ix2 ⟨256 * t.val + i.val, by have := t_lt t; omega⟩ l) := by
  show V m c main_arg2 ((win0_2.blk t).view.emb (ix2 i l)) = _
  rw [emb_2, V_main_arg2]
theorem s_blk (t : Fin cfg0.N) (i : Fin 1) (l : Fin 256) : iblk m c 3 t (ix2 i l) = sM m c (ix2 i ⟨256 * t.val + l.val, by have := t_lt t; omega⟩) := by
  show V m c main_v2 ((win0_3.blk t).view.emb (ix2 i l)) = _
  rw [emb_3, V_s]

/-! The results as functions of the matrices. -/

section Results

variable (x : Vec Ideal S1536x1024 .bf16) (y : Vec Ideal S1536x4096 .bf16) (w : Vec Ideal S4096x1024 .f32) (s : Vec Ideal S1x4096 .f32)

/-- The weight gradient, -/
def dwA : Vec Ideal S4096x1024 .f32 := fun j =>
  dwS (fun i => y (ix2 i (j (0 : Fin 2)))) (fun i => x (ix2 i (j (1 : Fin 2)))) (w (ix2 (j (0 : Fin 2)) (j (1 : Fin 2)))) (s (ix2 0 (j (0 : Fin 2))))
/-- the step sizes' gradient, -/
def dsA : Vec Ideal S1x4096 .f32 := fun j =>
  dsS (fun i => y (ix2 i (j (1 : Fin 2)))) (fun l i => x (ix2 i l)) (fun l => w (ix2 (j (1 : Fin 2)) l)) (s (ix2 0 (j (1 : Fin 2))))
/-- the quantised `x` and its scales, -/
def xqA : Vec Ideal S1536x1024 .fp8e4m3 := fun j => xqS (fun i => x (ix2 i (j (1 : Fin 2)))) (j (0 : Fin 2))
def sxA : Vec Ideal S1x1024 .f32 := fun j => sxS (fun i => x (ix2 i (j (1 : Fin 2))))
/-- the quantised `dy` and its scales, -/
def yqA : Vec Ideal S1536x4096 .fp8e5m2 := fun j => yqS (fun i => y (ix2 i (j (1 : Fin 2)))) (j (0 : Fin 2))
def syA : Vec Ideal S1x4096 .f32 := fun j => syS (fun i => y (ix2 i (j (1 : Fin 2))))
/-- and the packed codes. -/
def qpA : Vec Ideal S4096x512 .i8 := fun j =>
  pairS (byteS (w (ix2 (j (0 : Fin 2)) ⟨2 * (j (1 : Fin 2)).val, by have : (j (1 : Fin 2)).val < 512 := (j (1 : Fin 2)).isLt; omega⟩)) (s (ix2 0 (j (0 : Fin 2)))))
    (byteS (w (ix2 (j (0 : Fin 2)) ⟨2 * (j (1 : Fin 2)).val + 1, by have : (j (1 : Fin 2)).val < 512 := (j (1 : Fin 2)).isLt; omega⟩)) (s (ix2 0 (j (0 : Fin 2)))))

end Results

/-! The arrays after the run. -/

theorem dw_arr : (dats m 0 c).arrAt 4 (cfgs 0).N = dwA (xM m c) (yM m c) (wM m c) (sM m c) := by
  refine (dats m 0 c).arrAt_eq_of_covers 4 _ (by decide +kernel) fun t hf y => ?_
  blk_simp
  rw [after0_4]
  obtain ⟨i, l, rfl⟩ : ∃ (i : Fin 256) (l : Fin 1024), y = ix2 i l := ⟨_, _, eq_ix2 y⟩
  refine Eq.trans ?_ (congrArg (dwA (xM m c) (yM m c) (wM m c) (sM m c)) (emb_4 t _ _).symm)
  rw [DW_apply]
  simp only [x_blk, y_blk, w_blk, s_blk]
  rfl
theorem ds_arr : (dats m 0 c).arrAt 5 (cfgs 0).N = dsA (xM m c) (yM m c) (wM m c) (sM m c) := by
  refine (dats m 0 c).arrAt_eq_of_covers 5 _ (by decide +kernel) fun t hf y => ?_
  blk_simp
  rw [after0_5]
  obtain ⟨i, l, rfl⟩ : ∃ (i : Fin 1) (l : Fin 256), y = ix2 i l := ⟨_, _, eq_ix2 y⟩
  obtain rfl : i = 0 := Subsingleton.elim (α := Fin 1) _ _
  refine Eq.trans ?_ (congrArg (dsA (xM m c) (yM m c) (wM m c) (sM m c)) (emb_5 t _ _).symm)
  rw [DS_apply]
  simp only [x_blk, y_blk, w_blk, s_blk]
  rfl
theorem xq_arr : (dats m 0 c).arrAt 6 (cfgs 0).N = xqA (xM m c) := by
  refine (dats m 0 c).arrAt_eq_of_covers 6 _ (by decide +kernel) fun t hf y => ?_
  blk_simp
  rw [after0_6]
  obtain ⟨i, l, rfl⟩ : ∃ (i : Fin 1536) (l : Fin 1024), y = ix2 i l := ⟨_, _, eq_ix2 y⟩
  refine Eq.trans ?_ (congrArg (xqA (xM m c)) (emb_6 t _ _).symm)
  rw [XQ_apply]
  simp only [x_blk]
  rfl
theorem sx_arr : (dats m 0 c).arrAt 7 (cfgs 0).N = sxA (xM m c) := by
  refine (dats m 0 c).arrAt_eq_of_covers 7 _ (by decide +kernel) fun t hf y => ?_
  blk_simp
  rw [after0_7]
  obtain ⟨i, l, rfl⟩ : ∃ (i : Fin 1) (l : Fin 1024), y = ix2 i l := ⟨_, _, eq_ix2 y⟩
  obtain rfl : i = 0 := Subsingleton.elim (α := Fin 1) _ _
  refine Eq.trans ?_ (congrArg (sxA (xM m c)) (emb_7 t _ _).symm)
  rw [SX_apply]
  simp only [x_blk]
  rfl
theorem yq_arr : (dats m 0 c).arrAt 8 (cfgs 0).N = yqA (yM m c) := by
  refine (dats m 0 c).arrAt_eq_of_covers 8 _ (by decide +kernel) fun t hf y => ?_
  blk_simp
  rw [after0_8]
  obtain ⟨i, l, rfl⟩ : ∃ (i : Fin 1536) (l : Fin 256), y = ix2 i l := ⟨_, _, eq_ix2 y⟩
  refine Eq.trans ?_ (congrArg (yqA (yM m c)) (emb_8 t _ _).symm)
  rw [YQ_apply]
  simp only [y_blk]
  rfl
theorem sy_arr : (dats m 0 c).arrAt 9 (cfgs 0).N = syA (yM m c) := by
  refine (dats m 0 c).arrAt_eq_of_covers 9 _ (by decide +kernel) fun t hf y => ?_
  blk_simp
  rw [after0_9]
  obtain ⟨i, l, rfl⟩ : ∃ (i : Fin 1) (l : Fin 256), y = ix2 i l := ⟨_, _, eq_ix2 y⟩
  obtain rfl : i = 0 := Subsingleton.elim (α := Fin 1) _ _
  refine Eq.trans ?_ (congrArg (syA (yM m c)) (emb_9 t _ _).symm)
  rw [SY_apply]
  simp only [y_blk]
  rfl
theorem qp_arr : (dats m 0 c).arrAt 10 (cfgs 0).N = qpA (wM m c) (sM m c) := by
  refine (dats m 0 c).arrAt_eq_of_covers 10 _ (by decide +kernel) fun t hf y => ?_
  blk_simp
  rw [after0_10]
  obtain ⟨i, l, rfl⟩ : ∃ (i : Fin 256) (l : Fin 512), y = ix2 i l := ⟨_, _, eq_ix2 y⟩
  refine Eq.trans ?_ (congrArg (qpA (wM m c) (sM m c)) (emb_10 t _ _).symm)
  rw [QP_apply]
  simp only [w_blk, s_blk]
  rfl

end Cert.KernelIdeal.Body

end
-- ==== Proof.RefHost.lean ====
/- The reference's scales, codes and packed codes, computed before its body runs. -/
module

public import proofs.«01_k».proof.Proof.Gen.ReferenceIdeal.Value
public import proofs.«01_k».proof.Proof.Arrays
public import Idealize.ShloMosaic.Lib.Pipeline.ValueKit
public import Idealize.ShloMosaic.Lib.StableHlo.ReadAt

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Gen

open Cert.KernelIdeal.Body (xA yA)

/-! The reference's scalars. -/

/-- The powers of two that the reference's scale is chosen from. -/
def powR (i : Fin 253) : EReal :=
  Ideal.pow (Ideal.ofBits .f32 0x40000000#32) (FloatOps.sitofp (F := Ideal) .f32 (IntOp.addi 4294967171#32 (BitVec.ofNat 32 i.val)))
/-- The largest magnitude of a column. -/
def maxR (f : Fin 1536 → EReal) : EReal := Finset.univ.fold max (Ideal.ofBits .f32 0xFF800000#32) fun k => FloatOps.absf (F := Ideal) (φ := .f32) (f k)
/-- The scale for `t`: the least power above `t`, one where `t` is out of their range. -/
def pickR (t : EReal) : EReal :=
  Scalar.select (IntOp.andi (BitVec.ofBool (decide (Ideal.ofBits .f32 0x00800000#32 ≤ t))) (BitVec.ofBool (decide (t < Ideal.ofBits .f32 0x7F000000#32))))
    (Finset.univ.fold min (Ideal.ofBits .f32 0x7F800000#32) fun i => if t < powR i then powR i else Ideal.ofBits .f32 0x7F800000#32)
    (Ideal.ofBits .f32 0x3F800000#32)
/-- The scale of a column. -/
def scaleR (k : BitVec 32) (f : Fin 1536 → EReal) : EReal := pickR (maxR f * Ideal.ofBits .f32 k)

/-- The powers as the program computes them. -/
def powers : FVec Ideal S253 .f32 :=
  Host.powf (broadcastInDim S253 ![] bcast_S_S253 (constant S_ FTy.f32 0x40000000#32))
    (sitofp FTy.f32 (addi (broadcastInDim S253 ![] bcast_S_S253 (constantI S_ 32 4294967171#32)) (iotaInDim S253 32 0)))
theorem powers_apply (i : Fin 253) : powers (ix1 i) = powR i := by pointwise [powers, powR]

/-! The scales as the program computes them, then at an index. -/

def xT (x : Vec Ideal S1536x1024 .bf16) : FVec Ideal S1x1024 .f32 :=
  mulf (broadcastInDim S1x1024 ![1] bcast_S1024_S1x1024_1 (Host.reduce FloatOps.maximumf (Host.absf (extf .f32 x bitsLt_bf16_f32))
      (constant S_ .f32 0xFF800000#32) reducesTo_S1536x1024_S1024_d0 h_S_))
    (broadcastInDim S1x1024 ![] bcast_S_S1x1024 (constant S_ .f32 0x3B124925#32))
def xScale (t : FVec Ideal S1x1024 .f32) : FVec Ideal S1x1024 .f32 :=
  select (andi (cmpf .oge t (broadcastInDim S1x1024 ![] bcast_S_S1x1024 (constant S_ .f32 0x00800000#32)))
      (cmpf .olt t (broadcastInDim S1x1024 ![] bcast_S_S1x1024 (constant S_ .f32 0x7F000000#32))))
    (broadcastInDim S1x1024 ![1] bcast_S1024_S1x1024_1 (Host.reduce FloatOps.minimumf
      (select (cmpf .ogt (broadcastInDim S253x1024 ![0, 1] bcast_S253x1_S253x1024_0_1 (broadcastInDim S253x1 ![0] bcast_S253_S253x1_0 powers))
          (broadcastInDim S253x1024 ![0, 1] bcast_S1x1024_S253x1024_0_1 t))
        (broadcastInDim S253x1024 ![0, 1] bcast_S253x1_S253x1024_0_1 (broadcastInDim S253x1 ![0] bcast_S253_S253x1_0 powers))
        (broadcastInDim S253x1024 ![] bcast_S_S253x1024 (constant S_ .f32 0x7F800000#32)))
      (constant S_ .f32 0x7F800000#32) reducesTo_S253x1024_S1024_d0 h_S_))
    (broadcastInDim S1x1024 ![] bcast_S_S1x1024 (constant S_ .f32 0x3F800000#32))

theorem xMax_apply (z : FVec Ideal S1536x1024 .f32) (l : Fin 1024) :
    Host.reduce (FloatOps.maximumf (F := Ideal)) z (constant S_ .f32 0xFF800000#32) reducesTo_S1536x1024_S1024_d0 h_S_ (ix1 l)
      = Finset.univ.fold max (Ideal.ofBits .f32 0xFF800000#32) fun k : Fin 1536 => z (ix2 k l) := by
  pointwise
theorem xRow_apply (r : FVec Ideal S1024 .f32) (l : Fin 1024) :
    mulf (broadcastInDim S1x1024 ![1] bcast_S1024_S1x1024_1 r) (broadcastInDim S1x1024 ![] bcast_S_S1x1024 (constant S_ .f32 0x3B124925#32)) (ix2 0 l)
      = r (ix1 l) * Ideal.ofBits .f32 0x3B124925#32 := by
  pointwise
theorem xT_apply (x : Vec Ideal S1536x1024 .bf16) (l : Fin 1024) : xT x (ix2 0 l) = maxR (fun i => x (ix2 i l)) * Ideal.ofBits .f32 0x3B124925#32 := by
  unfold xT maxR
  rw [xRow_apply, xMax_apply]
  refine congrArg (· * _) (Finset.fold_congr fun k _ => ?_)
  rfl
theorem xScale_apply (t : FVec Ideal S1x1024 .f32) (l : Fin 1024) : xScale t (ix2 0 l) = pickR (t (ix2 0 l)) := by
  unfold xScale pickR
  generalize hp : powers = p
  have hp' : ∀ i, p (ix1 i) = powR i := fun i => hp ▸ powers_apply i
  pointwise [hp']

def yT (x : Vec Ideal S1536x4096 .bf16) : FVec Ideal S1x4096 .f32 :=
  mulf (broadcastInDim S1x4096 ![1] bcast_S4096_S1x4096_1 (Host.reduce FloatOps.maximumf (Host.absf (extf .f32 x bitsLt_bf16_f32))
      (constant S_ .f32 0xFF800000#32) reducesTo_S1536x4096_S4096_d0 h_S_))
    (broadcastInDim S1x4096 ![] bcast_S_S1x4096 (constant S_ .f32 0x37924925#32))
def yScale (t : FVec Ideal S1x4096 .f32) : FVec Ideal S1x4096 .f32 :=
  select (andi (cmpf .oge t (broadcastInDim S1x4096 ![] bcast_S_S1x4096 (constant S_ .f32 0x00800000#32)))
      (cmpf .olt t (broadcastInDim S1x4096 ![] bcast_S_S1x4096 (constant S_ .f32 0x7F000000#32))))
    (broadcastInDim S1x4096 ![1] bcast_S4096_S1x4096_1 (Host.reduce FloatOps.minimumf
      (select (cmpf .ogt (broadcastInDim S253x4096 ![0, 1] bcast_S253x1_S253x4096_0_1 (broadcastInDim S253x1 ![0] bcast_S253_S253x1_0 powers))
          (broadcastInDim S253x4096 ![0, 1] bcast_S1x4096_S253x4096_0_1 t))
        (broadcastInDim S253x4096 ![0, 1] bcast_S253x1_S253x4096_0_1 (broadcastInDim S253x1 ![0] bcast_S253_S253x1_0 powers))
        (broadcastInDim S253x4096 ![] bcast_S_S253x4096 (constant S_ .f32 0x7F800000#32)))
      (constant S_ .f32 0x7F800000#32) reducesTo_S253x4096_S4096_d0 h_S_))
    (broadcastInDim S1x4096 ![] bcast_S_S1x4096 (constant S_ .f32 0x3F800000#32))

theorem yMax_apply (z : FVec Ideal S1536x4096 .f32) (l : Fin 4096) :
    Host.reduce (FloatOps.maximumf (F := Ideal)) z (constant S_ .f32 0xFF800000#32) reducesTo_S1536x4096_S4096_d0 h_S_ (ix1 l)
      = Finset.univ.fold max (Ideal.ofBits .f32 0xFF800000#32) fun k : Fin 1536 => z (ix2 k l) := by
  pointwise
theorem yRow_apply (r : FVec Ideal S4096 .f32) (l : Fin 4096) :
    mulf (broadcastInDim S1x4096 ![1] bcast_S4096_S1x4096_1 r) (broadcastInDim S1x4096 ![] bcast_S_S1x4096 (constant S_ .f32 0x37924925#32)) (ix2 0 l)
      = r (ix1 l) * Ideal.ofBits .f32 0x37924925#32 := by
  pointwise
theorem yT_apply (x : Vec Ideal S1536x4096 .bf16) (l : Fin 4096) : yT x (ix2 0 l) = maxR (fun i => x (ix2 i l)) * Ideal.ofBits .f32 0x37924925#32 := by
  unfold yT maxR
  rw [yRow_apply, yMax_apply]
  refine congrArg (· * _) (Finset.fold_congr fun k _ => ?_)
  rfl
theorem yScale_apply (t : FVec Ideal S1x4096 .f32) (l : Fin 4096) : yScale t (ix2 0 l) = pickR (t (ix2 0 l)) := by
  unfold yScale pickR
  generalize hp : powers = p
  have hp' : ∀ i, p (ix1 i) = powR i := fun i => hp ▸ powers_apply i
  pointwise [hp']

/-! The weights over the step sizes, their codes and the packed codes. -/

def vV (w : FVec Ideal S4096x1024 .f32) (s : FVec Ideal S4096 .f32) : FVec Ideal S4096x1024 .f32 :=
  Host.divf w (broadcastInDim S4096x1024 ![0, 1] bcast_S4096x1_S4096x1024_0_1 (broadcastInDim S4096x1 ![0] bcast_S4096_S4096x1_0 s))
def qV (v : FVec Ideal S4096x1024 .f32) : FVec Ideal S4096x1024 .f32 :=
  minimumf (broadcastInDim S4096x1024 ![] bcast_S_S4096x1024 (constant S_ .f32 0x40E00000#32))
    (maximumf (broadcastInDim S4096x1024 ![] bcast_S_S4096x1024 (constant S_ .f32 0xC1000000#32)) (Host.roundeven v))
def codeV (q : FVec Ideal S4096x1024 .f32) : IVec S4096x1024 32 :=
  andi (fptosi 32 q) (broadcastInDim S4096x1024 ![] bcast_S_S4096x1024 (constantI S_ 32 15#32))
def packV (n : IVec S4096x1024 32) : IVec S4096x512 8 :=
  trunci 8 (ori (Host.slice S4096x512 ![0, 0] ![1, 2] n slicesBy_S4096x1024_S4096x512_0s1_0s2)
    (Host.shli (Host.slice S4096x512 ![0, 1] ![1, 2] n slicesBy_S4096x1024_S4096x512_0s1_1s2)
      (broadcastInDim S4096x512 ![] bcast_S_S4096x512 (constantI S_ 32 4#32)))) natLt_8_32

/-- A weight's code, rounded first and then clipped. -/
def codeR (v : EReal) : EReal :=
  min (Ideal.ofBits .f32 0x40E00000#32) (max (Ideal.ofBits .f32 0xC1000000#32) (Ideal.liftRound Ideal.roundHalfEven v))
/-- Its low half-byte, in a word. -/
def halfR (q : EReal) : BitVec 32 := IntOp.andi (Ideal.fptosi 32 q) 15#32
/-- Two half-bytes in a byte. -/
def joinR (p q : BitVec 32) : BitVec 8 := (IntOp.ori p (IntOp.shli .host q 4#32)).setWidth 8

theorem vV_apply (w : FVec Ideal S4096x1024 .f32) (s : FVec Ideal S4096 .f32) (r : Fin 4096) (l : Fin 1024) :
    vV w s (ix2 r l) = Ideal.div (w (ix2 r l)) (s (ix1 r)) := by pointwise [vV]
theorem qV_apply (v : FVec Ideal S4096x1024 .f32) (r : Fin 4096) (l : Fin 1024) : qV v (ix2 r l) = codeR (v (ix2 r l)) := by
  pointwise [qV, codeR]
theorem codeV_apply (v : FVec Ideal S4096x1024 .f32) (r : Fin 4096) (l : Fin 1024) : codeV v (ix2 r l) = halfR (v (ix2 r l)) := by
  pointwise [codeV, halfR]
  rfl
theorem packV_apply (n : IVec S4096x1024 32) (r : Fin 4096) (j : Fin 512) :
    packV n (ix2 r j) = joinR (n (ix2 r ⟨2 * j.val, by omega⟩)) (n (ix2 r ⟨1 + 2 * j.val, by omega⟩)) := by
  pointwise [packV, joinR]

variable (m : (ℓ : Loc nD τ sig) → Buf (Elt Ideal) ℓ) (c : Dev nD)

abbrev xM : Vec Ideal S1536x1024 .bf16 := xA (m ((c : Thread nD τ).loc main_arg0))
abbrev yM : Vec Ideal S1536x4096 .bf16 := yA (m ((c : Thread nD τ).loc main_arg1))

theorem V_x_eq : V m c main_v0 = xM m c := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl
theorem V_y_eq : V m c main_v1 = yM m c := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl
theorem V_v_eq : V m c main_v56 = vV (m ((c : Thread nD τ).loc main_arg2)) (m ((c : Thread nD τ).loc main_arg3)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl
theorem V_q_eq : V m c main_v58 = qV (vV (m ((c : Thread nD τ).loc main_arg2)) (m ((c : Thread nD τ).loc main_arg3))) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp -implicitDefEqProofs only [StableHlo.TRef.toBuf, StableHlo.TRef.ofBuf, cast_cast, cast_eq]
  rfl
theorem V_qp_eq : V m c main_v67 = packV (codeV (qV (vV (m ((c : Thread nD τ).loc main_arg2)) (m ((c : Thread nD τ).loc main_arg3))))) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp -implicitDefEqProofs only [StableHlo.TRef.toBuf, StableHlo.TRef.ofBuf, cast_cast, cast_eq]
  rfl
theorem V_sx_eq : V m c main_v27 = xScale (xT (xM m c)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp -implicitDefEqProofs only [StableHlo.TRef.toBuf, StableHlo.TRef.ofBuf, cast_cast, cast_eq]
  rfl
theorem V_sy_eq : V m c main_v53 = yScale (yT (yM m c)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp -implicitDefEqProofs only [StableHlo.TRef.toBuf, StableHlo.TRef.ofBuf, cast_cast, cast_eq]
  rfl

end Cert.ReferenceIdeal.Body

end
-- ==== Proof.RefBody.lean ====
/- The reference's body, at an index. -/
module

public import proofs.«01_k».proof.Proof.RefHost

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Gen

/-! The reference's body, one number at a time. -/

/-- The inverse of a scale, -/
def invR (sc : EReal) : EReal :=
  Scalar.select (FloatOps.cmpf (F := Ideal) (φ := .f32) .olt sc (Ideal.ofBits .f32 0x7F000000#32))
    (Ideal.div (Ideal.ofBits .f32 0x3F800000#32) sc) (Ideal.ofBits .f32 0x00000000#32)
/-- a number of a column quantised with scale `sc`, -/
def clipR (lo hi : BitVec 32) (sc v : EReal) : EReal :=
  min (Ideal.ofBits .f32 hi) (max (Ideal.ofBits .f32 lo) (v * invR sc))
def xqR (sc v : EReal) : EReal := clipR 0xC3E00000#32 0x43E00000#32 sc v
def yqR (sc v : EReal) : EReal := clipR 0xC7600000#32 0x47600000#32 sc v
/-- the product of two quantised columns, scaled back, -/
def prodR (f g : Fin 1536 → EReal) (sy sx : EReal) : EReal := (∑ i, yqR sy (f i) * xqR sx (g i)) * sy * sx
/-- the weight gradient, -/
def dwR (p v : EReal) : EReal :=
  Scalar.select (IntOp.andi (FloatOps.cmpf (F := Ideal) (φ := .f32) .oge v (Ideal.ofBits .f32 0xC1000000#32)) (FloatOps.cmpf (F := Ideal) (φ := .f32) .ole v (Ideal.ofBits .f32 0x40E00000#32)))
    p (Ideal.ofBits .f32 0x00000000#32)
/-- and the factor of the step size's gradient. -/
def factR (v q : EReal) : EReal :=
  Scalar.select (FloatOps.cmpf (F := Ideal) (φ := .f32) .olt v (Ideal.ofBits .f32 0xC1000000#32)) (Ideal.ofBits .f32 0xC1000000#32)
    (Scalar.select (FloatOps.cmpf (F := Ideal) (φ := .f32) .ogt v (Ideal.ofBits .f32 0x40E00000#32)) (Ideal.ofBits .f32 0x40E00000#32) (q - v))

section Pay

variable (sx : Vec Ideal S1x1024 .f32) (sy : Vec Ideal S1x4096 .f32) (v q : Vec Ideal S4096x1024 .f32)
  (x : Vec Ideal S1536x1024 .bf16) (y : Vec Ideal S1536x4096 .bf16)

  (z : FVec Ideal S1536x1024 .fp8e4m3) (a b : FVec Ideal S1536x4096 .f32)

theorem xq_apply (i : Fin 1536) (l : Fin 1024) : k0_pay9 sx x (ix2 i l) = xqR (sx (ix2 0 l)) (x (ix2 i l)) := by
  pointwise [k0_pay9, k0_pay5, xqR, clipR, invR]
theorem yq_apply (i : Fin 1536) (r : Fin 4096) : k0_pay1 (k0_pay10 sy y) k0_pay11 (ix2 i r) = yqR (sy (ix2 0 r)) (y (ix2 i r)) := by
  pointwise [k0_pay1, k0_pay10, k0_pay11, k0_pay6, yqR, clipR, invR]
theorem prod_apply (r : Fin 4096) (l : Fin 1024) :
    k0_pay2 (k0_pay5 sx) (k0_pay6 sy) z a b (ix2 r l)
      = (∑ i : Fin 1536, k0_pay1 a b (ix2 i r) * z (ix2 i l)) * sy (ix2 0 r) * sx (ix2 0 l) := by
  unfold k0_pay2
  generalize k0_pay1 (F := Ideal) a b = p
  pointwise [k0_pay5, k0_pay6]
theorem dw_apply (r : Fin 4096) (l : Fin 1024) :
    k0_pay3 (k0_pay5 sx) (k0_pay6 sy) (k0_pay7 v) z a b (ix2 r l)
      = dwR (k0_pay2 (k0_pay5 sx) (k0_pay6 sy) z a b (ix2 r l)) (v (ix2 r l)) := by
  unfold k0_pay3
  generalize k0_pay2 (F := Ideal) _ _ _ _ _ = p
  pointwise [k0_pay7, dwR]
theorem ds_apply (r : Fin 4096) :
    k0_pay4 (k0_pay5 sx) (k0_pay6 sy) (k0_pay7 v) (k0_pay8 q) z a b (ix2 0 r)
      = Ideal.ofBits .f32 0x3C41848F#32 * ∑ l : Fin 1024, factR (v (ix2 r l)) (q (ix2 r l)) * k0_pay2 (k0_pay5 sx) (k0_pay6 sy) z a b (ix2 r l) := by
  unfold k0_pay4
  generalize k0_pay2 (F := Ideal) _ _ _ _ _ = p
  pointwise [k0_pay7, k0_pay8, factR]
/-- The product of the quantised columns, scaled back. -/
theorem prod_eq (r : Fin 4096) (l : Fin 1024) :
    k0_pay2 (k0_pay5 sx) (k0_pay6 sy) (k0_pay9 sx x) (k0_pay10 sy y) k0_pay11 (ix2 r l)
      = prodR (fun i => y (ix2 i r)) (fun i => x (ix2 i l)) (sy (ix2 0 r)) (sx (ix2 0 l)) := by
  rw [prod_apply]
  simp only [xq_apply, yq_apply, prodR]

end Pay

end Cert.ReferenceIdeal.Body

end
-- ==== Proof.RefBlk.lean ====
/- The reference's blocks are whole arrays. -/
module

public import proofs.«01_k».proof.Proof.RefBody
public import Idealize.ShloMosaic.Lib.Pipeline.ValueKit

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Gen

/-! The body runs once, on whole arrays. -/

variable (m : (ℓ : Loc nD τ sig) → Buf (Elt Ideal) ℓ) (c : Dev nD)

theorem ix_0 : ∀ t : Fin cfg0.N, win0_0.index t = ![0, 0] := (by decide +kernel : ∀ t : Fin grid0.N, win0_0.index t = ![0, 0])
theorem emb_0 (t : Fin cfg0.N) (i : Fin 1536) (l : Fin 1024) : (win0_0.blk t).view.emb (ix2 i l) = ix2 i l := by
  funext a
  refine Fin.ext ?_
  blk_simp [ix_0]
  revert a
  exact Fin.forall_fin_two.mpr ⟨by simp, by simp⟩
theorem ix_1 : ∀ t : Fin cfg0.N, win0_1.index t = ![0, 0] := (by decide +kernel : ∀ t : Fin grid0.N, win0_1.index t = ![0, 0])
theorem emb_1 (t : Fin cfg0.N) (i : Fin 1536) (l : Fin 4096) : (win0_1.blk t).view.emb (ix2 i l) = ix2 i l := by
  funext a
  refine Fin.ext ?_
  blk_simp [ix_1]
  revert a
  exact Fin.forall_fin_two.mpr ⟨by simp, by simp⟩
theorem ix_2 : ∀ t : Fin cfg0.N, win0_2.index t = ![0, 0] := (by decide +kernel : ∀ t : Fin grid0.N, win0_2.index t = ![0, 0])
theorem emb_2 (t : Fin cfg0.N) (i : Fin 1) (l : Fin 1024) : (win0_2.blk t).view.emb (ix2 i l) = ix2 i l := by
  funext a
  refine Fin.ext ?_
  blk_simp [ix_2]
  revert a
  exact Fin.forall_fin_two.mpr ⟨by simp, by simp⟩
theorem ix_3 : ∀ t : Fin cfg0.N, win0_3.index t = ![0, 0] := (by decide +kernel : ∀ t : Fin grid0.N, win0_3.index t = ![0, 0])
theorem emb_3 (t : Fin cfg0.N) (i : Fin 1) (l : Fin 4096) : (win0_3.blk t).view.emb (ix2 i l) = ix2 i l := by
  funext a
  refine Fin.ext ?_
  blk_simp [ix_3]
  revert a
  exact Fin.forall_fin_two.mpr ⟨by simp, by simp⟩
theorem ix_4 : ∀ t : Fin cfg0.N, win0_4.index t = ![0, 0] := (by decide +kernel : ∀ t : Fin grid0.N, win0_4.index t = ![0, 0])
theorem emb_4 (t : Fin cfg0.N) (i : Fin 4096) (l : Fin 1024) : (win0_4.blk t).view.emb (ix2 i l) = ix2 i l := by
  funext a
  refine Fin.ext ?_
  blk_simp [ix_4]
  revert a
  exact Fin.forall_fin_two.mpr ⟨by simp, by simp⟩
theorem ix_5 : ∀ t : Fin cfg0.N, win0_5.index t = ![0, 0] := (by decide +kernel : ∀ t : Fin grid0.N, win0_5.index t = ![0, 0])
theorem emb_5 (t : Fin cfg0.N) (i : Fin 4096) (l : Fin 1024) : (win0_5.blk t).view.emb (ix2 i l) = ix2 i l := by
  funext a
  refine Fin.ext ?_
  blk_simp [ix_5]
  revert a
  exact Fin.forall_fin_two.mpr ⟨by simp, by simp⟩
theorem ix_6 : ∀ t : Fin cfg0.N, win0_6.index t = ![0, 0] := (by decide +kernel : ∀ t : Fin grid0.N, win0_6.index t = ![0, 0])
theorem emb_6 (t : Fin cfg0.N) (i : Fin 4096) (l : Fin 1024) : (win0_6.blk t).view.emb (ix2 i l) = ix2 i l := by
  funext a
  refine Fin.ext ?_
  blk_simp [ix_6]
  revert a
  exact Fin.forall_fin_two.mpr ⟨by simp, by simp⟩
theorem ix_7 : ∀ t : Fin cfg0.N, win0_7.index t = ![0, 0] := (by decide +kernel : ∀ t : Fin grid0.N, win0_7.index t = ![0, 0])
theorem emb_7 (t : Fin cfg0.N) (i : Fin 1) (l : Fin 4096) : (win0_7.blk t).view.emb (ix2 i l) = ix2 i l := by
  funext a
  refine Fin.ext ?_
  blk_simp [ix_7]
  revert a
  exact Fin.forall_fin_two.mpr ⟨by simp, by simp⟩
theorem ix_8 : ∀ t : Fin cfg0.N, win0_8.index t = ![0, 0] := (by decide +kernel : ∀ t : Fin grid0.N, win0_8.index t = ![0, 0])
theorem emb_8 (t : Fin cfg0.N) (i : Fin 1536) (l : Fin 1024) : (win0_8.blk t).view.emb (ix2 i l) = ix2 i l := by
  funext a
  refine Fin.ext ?_
  blk_simp [ix_8]
  revert a
  exact Fin.forall_fin_two.mpr ⟨by simp, by simp⟩
theorem ix_9 : ∀ t : Fin cfg0.N, win0_9.index t = ![0, 0] := (by decide +kernel : ∀ t : Fin grid0.N, win0_9.index t = ![0, 0])
theorem emb_9 (t : Fin cfg0.N) (i : Fin 1536) (l : Fin 4096) : (win0_9.blk t).view.emb (ix2 i l) = ix2 i l := by
  funext a
  refine Fin.ext ?_
  blk_simp [ix_9]
  revert a
  exact Fin.forall_fin_two.mpr ⟨by simp, by simp⟩

/-- The weights over the step sizes. -/
abbrev vM : FVec Ideal S4096x1024 .f32 := vV (m ((c : Thread nD τ).loc main_arg2)) (m ((c : Thread nD τ).loc main_arg3))

theorem read_0 (f : FVec Ideal (Shape.mk 2 ![1536, 1024]) .f32) (t : Fin cfg0.N) : (win0_0.blk t).view.read (Elt Ideal) f = f := by
  funext j
  obtain ⟨i, l, rfl⟩ : ∃ (i : Fin 1536) (l : Fin 1024), j = ix2 i l := ⟨_, _, eq_ix2 j⟩
  exact congrArg f (emb_0 t i l)
theorem x_blk (t : Fin cfg0.N) : iblk m c 0 t = xM m c :=
  (read_0 (V m c main_v0) t).trans (V_x_eq m c)
theorem read_1 (f : FVec Ideal (Shape.mk 2 ![1536, 4096]) .f32) (t : Fin cfg0.N) : (win0_1.blk t).view.read (Elt Ideal) f = f := by
  funext j
  obtain ⟨i, l, rfl⟩ : ∃ (i : Fin 1536) (l : Fin 4096), j = ix2 i l := ⟨_, _, eq_ix2 j⟩
  exact congrArg f (emb_1 t i l)
theorem y_blk (t : Fin cfg0.N) : iblk m c 1 t = yM m c :=
  (read_1 (V m c main_v1) t).trans (V_y_eq m c)
theorem read_2 (f : FVec Ideal (Shape.mk 2 ![1, 1024]) .f32) (t : Fin cfg0.N) : (win0_2.blk t).view.read (Elt Ideal) f = f := by
  funext j
  obtain ⟨i, l, rfl⟩ : ∃ (i : Fin 1) (l : Fin 1024), j = ix2 i l := ⟨_, _, eq_ix2 j⟩
  exact congrArg f (emb_2 t i l)
theorem sx_blk (t : Fin cfg0.N) : iblk m c 2 t = xScale (xT (xM m c)) :=
  (read_2 (V m c main_v27) t).trans (V_sx_eq m c)
theorem read_3 (f : FVec Ideal (Shape.mk 2 ![1, 4096]) .f32) (t : Fin cfg0.N) : (win0_3.blk t).view.read (Elt Ideal) f = f := by
  funext j
  obtain ⟨i, l, rfl⟩ : ∃ (i : Fin 1) (l : Fin 4096), j = ix2 i l := ⟨_, _, eq_ix2 j⟩
  exact congrArg f (emb_3 t i l)
theorem sy_blk (t : Fin cfg0.N) : iblk m c 3 t = yScale (yT (yM m c)) :=
  (read_3 (V m c main_v53) t).trans (V_sy_eq m c)
theorem read_4 (f : FVec Ideal (Shape.mk 2 ![4096, 1024]) .f32) (t : Fin cfg0.N) : (win0_4.blk t).view.read (Elt Ideal) f = f := by
  funext j
  obtain ⟨i, l, rfl⟩ : ∃ (i : Fin 4096) (l : Fin 1024), j = ix2 i l := ⟨_, _, eq_ix2 j⟩
  exact congrArg f (emb_4 t i l)
theorem v_blk (t : Fin cfg0.N) : iblk m c 4 t = vM m c :=
  (read_4 (V m c main_v56) t).trans (V_v_eq m c)
theorem read_5 (f : FVec Ideal (Shape.mk 2 ![4096, 1024]) .f32) (t : Fin cfg0.N) : (win0_5.blk t).view.read (Elt Ideal) f = f := by
  funext j
  obtain ⟨i, l, rfl⟩ : ∃ (i : Fin 4096) (l : Fin 1024), j = ix2 i l := ⟨_, _, eq_ix2 j⟩
  exact congrArg f (emb_5 t i l)
theorem q_blk (t : Fin cfg0.N) : iblk m c 5 t = qV (vM m c) :=
  (read_5 (V m c main_v58) t).trans (V_q_eq m c)

/-! The arrays after the run. -/

end Cert.ReferenceIdeal.Body

end
-- ==== Proof.RefArrays.lean ====
/- The reference's result arrays. -/
module

public import proofs.«01_k».proof.Proof.RefBlk

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Gen

/-! The value the body leaves in each result, over the blocks it read. -/

theorem pay12 (x0 : Vec Ideal S1536x1024 .bf16) (x1 : Vec Ideal S1536x4096 .bf16) (x2 : Vec Ideal S1x1024 .f32) (x3 : Vec Ideal S1x4096 .f32) (x4 : Vec Ideal S4096x1024 .f32) (x5 : Vec Ideal S4096x1024 .f32) :
    k0_pay12 x0 x1 x2 x3 x4 x5 = k0_pay5 x2 := by
  unfold k0_pay12
  frame_out
theorem pay13 (x0 : Vec Ideal S1536x1024 .bf16) (x1 : Vec Ideal S1536x4096 .bf16) (x2 : Vec Ideal S1x1024 .f32) (x3 : Vec Ideal S1x4096 .f32) (x4 : Vec Ideal S4096x1024 .f32) (x5 : Vec Ideal S4096x1024 .f32) :
    k0_pay13 x0 x1 x2 x3 x4 x5 = k0_pay6 x3 := by
  unfold k0_pay13
  frame_out
theorem pay14 (x0 : Vec Ideal S1536x1024 .bf16) (x1 : Vec Ideal S1536x4096 .bf16) (x2 : Vec Ideal S1x1024 .f32) (x3 : Vec Ideal S1x4096 .f32) (x4 : Vec Ideal S4096x1024 .f32) (x5 : Vec Ideal S4096x1024 .f32) :
    k0_pay14 x0 x1 x2 x3 x4 x5 = k0_pay7 x4 := by
  unfold k0_pay14
  frame_out
theorem pay15 (x0 : Vec Ideal S1536x1024 .bf16) (x1 : Vec Ideal S1536x4096 .bf16) (x2 : Vec Ideal S1x1024 .f32) (x3 : Vec Ideal S1x4096 .f32) (x4 : Vec Ideal S4096x1024 .f32) (x5 : Vec Ideal S4096x1024 .f32) :
    k0_pay15 x0 x1 x2 x3 x4 x5 = k0_pay9 x2 x0 := by
  unfold k0_pay15
  frame_out
theorem pay16 (x0 : Vec Ideal S1536x1024 .bf16) (x1 : Vec Ideal S1536x4096 .bf16) (x2 : Vec Ideal S1x1024 .f32) (x3 : Vec Ideal S1x4096 .f32) (x4 : Vec Ideal S4096x1024 .f32) (x5 : Vec Ideal S4096x1024 .f32) :
    k0_pay16 x0 x1 x2 x3 x4 x5 = k0_pay10 x3 x1 := by
  unfold k0_pay16
  frame_out
theorem pay17 (x0 : Vec Ideal S1536x1024 .bf16) (x1 : Vec Ideal S1536x4096 .bf16) (x2 : Vec Ideal S1x1024 .f32) (x3 : Vec Ideal S1x4096 .f32) (x4 : Vec Ideal S4096x1024 .f32) (x5 : Vec Ideal S4096x1024 .f32) :
    k0_pay17 x0 x1 x2 x3 x4 x5 = k0_pay11 := by
  unfold k0_pay17
  rfl
theorem out6 (x0 : Vec Ideal S1536x1024 .bf16) (x1 : Vec Ideal S1536x4096 .bf16) (x2 : Vec Ideal S1x1024 .f32) (x3 : Vec Ideal S1x4096 .f32) (x4 : Vec Ideal S4096x1024 .f32) (x5 : Vec Ideal S4096x1024 .f32) :
    out0_6 x0 x1 x2 x3 x4 x5 = k0_pay3 (k0_pay5 x2) (k0_pay6 x3) (k0_pay7 x4) (k0_pay9 x2 x0) (k0_pay10 x3 x1) k0_pay11 := by
  rw [← pay12 x0 x1 x2 x3 x4 x5, ← pay13 x0 x1 x2 x3 x4 x5, ← pay14 x0 x1 x2 x3 x4 x5, ← pay15 x0 x1 x2 x3 x4 x5, ← pay16 x0 x1 x2 x3 x4 x5, ← pay17 x0 x1 x2 x3 x4 x5]
  frame_out
theorem out7 (x0 : Vec Ideal S1536x1024 .bf16) (x1 : Vec Ideal S1536x4096 .bf16) (x2 : Vec Ideal S1x1024 .f32) (x3 : Vec Ideal S1x4096 .f32) (x4 : Vec Ideal S4096x1024 .f32) (x5 : Vec Ideal S4096x1024 .f32) :
    out0_7 x0 x1 x2 x3 x4 x5 = k0_pay4 (k0_pay5 x2) (k0_pay6 x3) (k0_pay7 x4) (k0_pay8 x5) (k0_pay9 x2 x0) (k0_pay10 x3 x1) k0_pay11 := by
  rw [← pay12 x0 x1 x2 x3 x4 x5, ← pay13 x0 x1 x2 x3 x4 x5, ← pay14 x0 x1 x2 x3 x4 x5, ← pay15 x0 x1 x2 x3 x4 x5, ← pay16 x0 x1 x2 x3 x4 x5, ← pay17 x0 x1 x2 x3 x4 x5]
  frame_out
theorem out8 (x0 : Vec Ideal S1536x1024 .bf16) (x1 : Vec Ideal S1536x4096 .bf16) (x2 : Vec Ideal S1x1024 .f32) (x3 : Vec Ideal S1x4096 .f32) (x4 : Vec Ideal S4096x1024 .f32) (x5 : Vec Ideal S4096x1024 .f32) :
    out0_8 x0 x1 x2 x3 x4 x5 = k0_pay9 x2 x0 := by
  rw [← pay15 x0 x1 x2 x3 x4 x5]
  frame_out
theorem out9 (x0 : Vec Ideal S1536x1024 .bf16) (x1 : Vec Ideal S1536x4096 .bf16) (x2 : Vec Ideal S1x1024 .f32) (x3 : Vec Ideal S1x4096 .f32) (x4 : Vec Ideal S4096x1024 .f32) (x5 : Vec Ideal S4096x1024 .f32) :
    out0_9 x0 x1 x2 x3 x4 x5 = k0_pay1 (k0_pay10 x3 x1) k0_pay11 := by
  rw [← pay16 x0 x1 x2 x3 x4 x5, ← pay17 x0 x1 x2 x3 x4 x5]
  frame_out

/-! The arrays after the run. -/

variable (m : (ℓ : Loc nD τ sig) → Buf (Elt Ideal) ℓ) (c : Dev nD)

theorem dw_after (t : Fin cfg0.N) : (dats m 0 c).after 6 t = k0_pay3 (k0_pay5 (xScale (xT (xM m c)))) (k0_pay6 (yScale (yT (yM m c)))) (k0_pay7 (vM m c)) (k0_pay9 (xScale (xT (xM m c))) (xM m c)) (k0_pay10 (yScale (yT (yM m c))) (yM m c)) k0_pay11 :=
  (after0_6 m c t).trans ((out6 _ _ _ _ _ _).trans (by rw [x_blk, y_blk, sx_blk, sy_blk, v_blk]))
theorem dw_arr : (dats m 0 c).arrAt 6 cfg0.N = k0_pay3 (k0_pay5 (xScale (xT (xM m c)))) (k0_pay6 (yScale (yT (yM m c)))) (k0_pay7 (vM m c)) (k0_pay9 (xScale (xT (xM m c))) (xM m c)) (k0_pay10 (yScale (yT (yM m c))) (yM m c)) k0_pay11 := by
  refine (dats m 0 c).arrAt_eq_of_covers 6 _ (by decide +kernel) fun t hf y => ?_
  blk_simp
  rw [dw_after]
  obtain ⟨i, l, rfl⟩ : ∃ (i : Fin 4096) (l : Fin 1024), y = ix2 i l := ⟨_, _, eq_ix2 y⟩
  generalize k0_pay3 (k0_pay5 (xScale (xT (xM m c)))) (k0_pay6 (yScale (yT (yM m c)))) (k0_pay7 (vM m c)) (k0_pay9 (xScale (xT (xM m c))) (xM m c)) (k0_pay10 (yScale (yT (yM m c))) (yM m c)) k0_pay11 = f
  exact congrArg f (emb_6 t i l).symm
theorem ds_after (t : Fin cfg0.N) : (dats m 0 c).after 7 t = k0_pay4 (k0_pay5 (xScale (xT (xM m c)))) (k0_pay6 (yScale (yT (yM m c)))) (k0_pay7 (vM m c)) (k0_pay8 (qV (vM m c))) (k0_pay9 (xScale (xT (xM m c))) (xM m c)) (k0_pay10 (yScale (yT (yM m c))) (yM m c)) k0_pay11 :=
  (after0_7 m c t).trans ((out7 _ _ _ _ _ _).trans (by rw [x_blk, y_blk, sx_blk, sy_blk, v_blk, q_blk]))
theorem ds_arr : (dats m 0 c).arrAt 7 cfg0.N = k0_pay4 (k0_pay5 (xScale (xT (xM m c)))) (k0_pay6 (yScale (yT (yM m c)))) (k0_pay7 (vM m c)) (k0_pay8 (qV (vM m c))) (k0_pay9 (xScale (xT (xM m c))) (xM m c)) (k0_pay10 (yScale (yT (yM m c))) (yM m c)) k0_pay11 := by
  refine (dats m 0 c).arrAt_eq_of_covers 7 _ (by decide +kernel) fun t hf y => ?_
  blk_simp
  rw [ds_after]
  obtain ⟨i, l, rfl⟩ : ∃ (i : Fin 1) (l : Fin 4096), y = ix2 i l := ⟨_, _, eq_ix2 y⟩
  generalize k0_pay4 (k0_pay5 (xScale (xT (xM m c)))) (k0_pay6 (yScale (yT (yM m c)))) (k0_pay7 (vM m c)) (k0_pay8 (qV (vM m c))) (k0_pay9 (xScale (xT (xM m c))) (xM m c)) (k0_pay10 (yScale (yT (yM m c))) (yM m c)) k0_pay11 = f
  exact congrArg f (emb_7 t i l).symm
theorem xq_after (t : Fin cfg0.N) : (dats m 0 c).after 8 t = k0_pay9 (xScale (xT (xM m c))) (xM m c) :=
  (after0_8 m c t).trans ((out8 _ _ _ _ _ _).trans (by rw [x_blk, sx_blk]))
theorem xq_arr : (dats m 0 c).arrAt 8 cfg0.N = k0_pay9 (xScale (xT (xM m c))) (xM m c) := by
  refine (dats m 0 c).arrAt_eq_of_covers 8 _ (by decide +kernel) fun t hf y => ?_
  blk_simp
  rw [xq_after]
  obtain ⟨i, l, rfl⟩ : ∃ (i : Fin 1536) (l : Fin 1024), y = ix2 i l := ⟨_, _, eq_ix2 y⟩
  generalize k0_pay9 (xScale (xT (xM m c))) (xM m c) = f
  exact congrArg f (emb_8 t i l).symm
theorem yq_after (t : Fin cfg0.N) : (dats m 0 c).after 9 t = k0_pay1 (k0_pay10 (yScale (yT (yM m c))) (yM m c)) k0_pay11 :=
  (after0_9 m c t).trans ((out9 _ _ _ _ _ _).trans (by rw [y_blk, sy_blk]))
theorem yq_arr : (dats m 0 c).arrAt 9 cfg0.N = k0_pay1 (k0_pay10 (yScale (yT (yM m c))) (yM m c)) k0_pay11 := by
  refine (dats m 0 c).arrAt_eq_of_covers 9 _ (by decide +kernel) fun t hf y => ?_
  blk_simp
  rw [yq_after]
  obtain ⟨i, l, rfl⟩ : ∃ (i : Fin 1536) (l : Fin 4096), y = ix2 i l := ⟨_, _, eq_ix2 y⟩
  generalize k0_pay1 (k0_pay10 (yScale (yT (yM m c))) (yM m c)) k0_pay11 = f
  exact congrArg f (emb_9 t i l).symm

end Cert.ReferenceIdeal.Body

end
-- ==== Proof.Scales.lean ====
/- The scales of the kernel and of the reference are the same numbers. -/
module

public import proofs.«01_k».proof.Proof.RefBody

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Gen

open Cert.KernelIdeal.Body (rungS fieldS isOneS scaleS invS colMax colScale colQuant)

/-! The scales of the two programs agree. -/

/-- The number whose exponent field is `n`, its fraction zero. -/
def pw (n : ℕ) : EReal := if n = 0 then 0 else if n = 255 then ⊤ else (((2 : ℝ) ^ ((n : ℤ) - 127) : ℝ) : EReal)

theorem fields : ∀ n : Fin 256, ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

theorem ieee_pw (b : BitVec 32) (n : ℕ) (h1 : (b.extractLsb' 31 1 == 1#1) = false) (h2 : (b.extractLsb' 23 8).toNat = n)
    (h3 : (b.extractLsb' 0 23).toNat = 0) : Ideal.ieee 8 23 b = pw n := by
  unfold Ideal.ieee
  simp only [Nat.reduceAdd, h1, h2, h3]
  unfold pw
  by_cases h0 : n = 0
  · subst h0; simp
  by_cases h5 : n = 255
  · subst h5; simp
  rw [if_neg (by norm_num; exact h5), if_neg h0, if_neg h0, if_neg h5]
  congr 1
  have e : ((n : ℤ) - (2 ^ (8 - 1) - 1) - (23 : ℕ)) = ((n : ℤ) - 127) - 23 := by norm_num
  rw [e, zpow_sub₀ (by norm_num)]
  norm_num
  ring
/-- A word with exponent field `n` and fraction zero denotes `pw n`. -/
theorem ofBits_field (n : ℕ) (hn : n < 256) : Ideal.ofBits .f32 (IntOp.shli .vector (BitVec.ofNat 32 n) 23#32) = pw n := by
  obtain ⟨h1, h2, h3⟩ := fields ⟨n, hn⟩
  exact ieee_pw _ n h1 h2 h3

theorem pw_mono {a b : ℕ} (h : a ≤ b) (hb : b < 256) : pw a ≤ pw b := by
  unfold pw
  split_ifs with h1 h2 h3 h4 h5 h6 <;> first | exact le_refl _ | exact le_top | (exfalso; omega) | skip
  · exact EReal.coe_nonneg.mpr (zpow_pos (by norm_num) _).le
  · exact EReal.coe_le_coe_iff.mpr (zpow_le_zpow_right₀ (by norm_num) (by omega))

theorem oge_iff (x y : EReal) : FloatOps.cmpf (F := Ideal) (φ := .f32) .oge x y = 1 ↔ y ≤ x := by
  show BitVec.ofBool (decide (y ≤ x)) = 1 ↔ _
  by_cases h : y ≤ x <;> simp [h]

/-- Below a run of `k` fields starting at `n`. -/
def Inv (t : EReal) (k n : ℕ) : Prop := n + k ≤ 256 ∧ pw n ≤ t ∧ (n + k = 256 ∨ t < pw (n + k))

/-- A step of the search halves the run. -/
theorem rung_step (t : EReal) (k : ℕ) (hk : 0 < k) (ex : BitVec 32) (h : ∃ n, ex = BitVec.ofNat 32 n ∧ Inv t (2 * k) n) :
    ∃ n, rungS (BitVec.ofNat 32 k) t ex = BitVec.ofNat 32 n ∧ Inv t k n := by
  obtain ⟨n, rfl, h1, h2, h3⟩ := h
  have e : IntOp.addi (BitVec.ofNat 32 n) (BitVec.ofNat 32 k) = BitVec.ofNat 32 (n + k) := (BitVec.ofNat_add n k).symm
  unfold rungS Scalar.select
  rw [e, ofBits_field (n + k) (by omega)]
  simp only [oge_iff]
  split_ifs with hc
  · exact ⟨n + k, rfl, by omega, hc, by rwa [show n + k + k = n + 2 * k by ring]⟩
  · exact ⟨n, rfl, by omega, h2, .inr (not_le.mp hc)⟩

/-- What the search finds. -/
theorem field_cases (t : EReal) (h : 0 ≤ t) :
    (pw 254 ≤ t ∧ fieldS t = 255#32) ∨ ∃ n, n < 254 ∧ fieldS t = BitVec.ofNat 32 n ∧ pw n ≤ t ∧ t < pw (n + 1) := by
  have h7 : Ideal.ofBits .f32 0x7F000000#32 = pw 254 := ofBits_field 254 (by norm_num)
  unfold fieldS
  rw [h7]
  unfold Scalar.select
  simp only [oge_iff]
  split_ifs with hc
  · exact .inl ⟨hc, rfl⟩
  refine .inr ?_
  have s0 : ∃ n, 0#32 = BitVec.ofNat 32 n ∧ Inv t (2 * 128) n := ⟨0, rfl, by norm_num, by simpa [pw] using h, .inl (by norm_num)⟩
  obtain ⟨n, e, h1, h2, h3⟩ := rung_step t 1 (by norm_num) _ (rung_step t 2 (by norm_num) _ (rung_step t 4 (by norm_num) _ (rung_step t 8 (by norm_num) _
    (rung_step t 16 (by norm_num) _ (rung_step t 32 (by norm_num) _ (rung_step t 64 (by norm_num) _ (rung_step t 128 (by norm_num) _ s0)))))))
  have hn : n < 254 := by
    by_contra hn
    exact hc ((pw_mono (by omega) (by omega)).trans h2)
  refine ⟨n, hn, e, h2, ?_⟩
  rcases h3 with h3 | h3
  · omega
  · exact h3

theorem powR_eq (i : Fin 253) : powR i = pw (i.val + 2) := by
  have e : ∀ i : Fin 253, (IntOp.addi 4294967171#32 (BitVec.ofNat 32 i.val)).toInt = (i.val : ℤ) - 125 := by decide +kernel
  have h2 : Ideal.ofBits .f32 0x40000000#32 = ((2 : ℝ) : EReal) := by
    rw [show (0x40000000#32 : BitVec 32) = IntOp.shli .vector (BitVec.ofNat 32 128) 23#32 from by decide, ofBits_field 128 (by norm_num)]
    norm_num [pw]
  unfold powR
  rw [h2]
  show Ideal.pow _ (((((IntOp.addi 4294967171#32 (BitVec.ofNat 32 i.val)).toInt : ℤ) : ℝ)) : EReal) = _
  rw [e i]
  show ((Real.rpow 2 (((i.val : ℤ) - 125 : ℤ) : ℝ) : ℝ) : EReal) = _
  have hi := i.isLt
  unfold pw
  rw [if_neg (by omega), if_neg (by omega)]
  congr 1
  show (2 : ℝ) ^ (((i.val : ℤ) - 125 : ℤ) : ℝ) = _
  rw [Real.rpow_intCast]
  congr 1
  push_cast
  ring

theorem and_iff (p q : Prop) [Decidable p] [Decidable q] : IntOp.andi (BitVec.ofBool (decide p)) (BitVec.ofBool (decide q)) = 1 ↔ p ∧ q := by
  by_cases hp : p <;> by_cases hq : q <;> simp [hp, hq, IntOp.andi]

theorem one_f32 : Ideal.ofBits .f32 0x3F800000#32 = 1 := by
  rw [show (0x3F800000#32 : BitVec 32) = IntOp.shli .vector (BitVec.ofNat 32 127) 23#32 from by decide, ofBits_field 127 (by norm_num)]
  norm_num [pw]

/-- The least power above a `t` with field `n`. -/
theorem pickR_in (t : EReal) (n : ℕ) (h1 : 1 ≤ n) (hn : n < 254) (h2 : pw n ≤ t) (h3 : t < pw (n + 1)) : pickR t = pw (n + 1) := by
  have e1 : Ideal.ofBits .f32 0x00800000#32 = pw 1 := ofBits_field 1 (by norm_num)
  have e2 : Ideal.ofBits .f32 0x7F000000#32 = pw 254 := ofBits_field 254 (by norm_num)
  have e3 : Ideal.ofBits .f32 0x7F800000#32 = ⊤ := (ofBits_field 255 (by norm_num)).trans (by simp [pw])
  unfold pickR Scalar.select
  rw [e1, e2, e3]
  simp only [and_iff]
  rw [if_pos ⟨(pw_mono h1 (by omega)).trans h2, h3.trans_le (pw_mono (by omega) (by norm_num))⟩]
  refine le_antisymm ?_ ?_
  · refine Finset.fold_min_le _ |>.mpr (.inr ⟨⟨n - 1, by omega⟩, Finset.mem_univ _, ?_⟩)
    have e : powR ⟨n - 1, by omega⟩ = pw (n + 1) := by rw [powR_eq]; congr 1; show n - 1 + 2 = n + 1; omega
    rw [e, if_pos h3]
  · refine Finset.le_fold_min _ |>.mpr ⟨le_top, fun i _ => ?_⟩
    rw [powR_eq]
    have hi := i.isLt
    split_ifs with hc
    · by_cases hle : n + 1 ≤ i.val + 2
      · exact pw_mono hle (by omega)
      · exact absurd (hc.trans_le ((pw_mono (by omega) (by omega)).trans h2)) (lt_irrefl _)
    · exact le_top
theorem pickR_out (t : EReal) (h : ¬ (pw 1 ≤ t ∧ t < pw 254)) : pickR t = 1 := by
  have e1 : Ideal.ofBits .f32 0x00800000#32 = pw 1 := ofBits_field 1 (by norm_num)
  have e2 : Ideal.ofBits .f32 0x7F000000#32 = pw 254 := ofBits_field 254 (by norm_num)
  unfold pickR Scalar.select
  rw [e1, e2]
  simp only [and_iff]
  rw [if_neg h, one_f32]

theorem or_iff (a b : BitVec 1) : IntOp.ori a b = 1 ↔ a = 1 ∨ b = 1 := by revert a b; decide
theorem isOne_iff (a t : EReal) : isOneS a t = 1 ↔ (fieldS t = 0#32 ∨ fieldS t = 255#32) ∨ a = 0 := by
  unfold isOneS
  rw [or_iff, or_iff]
  have h : FloatOps.cmpf (F := Ideal) (φ := .f32) .oeq a (Ideal.ofBits .f32 0x00000000#32) = 1 ↔ a = 0 := by
    rw [Ideal.ofBits_zero_f32]
    show BitVec.ofBool (decide (a = 0)) = 1 ↔ _
    by_cases h : a = 0 <;> simp [h]
  have g (x y : BitVec 32) : IntOp.cmpi .eq x y = 1 ↔ x = y := by
    show BitVec.ofBool (x == y) = 1 ↔ _
    by_cases h : x = y
    · simp [h]
    · rw [beq_eq_false_iff_ne.mpr h]
      simp [h]
  rw [h, g, g]

theorem invR_one : invR 1 = 1 := by
  have e2 : Ideal.ofBits .f32 0x7F000000#32 = pw 254 := ofBits_field 254 (by norm_num)
  unfold invR Scalar.select
  rw [e2, one_f32]
  rw [if_pos]
  · simp [Ideal.div]
  · show BitVec.ofBool (decide ((1 : EReal) < pw 254)) = 1
    have : (1 : EReal) < pw 254 := by
      unfold pw
      norm_num
      exact_mod_cast (by norm_num : (1 : ℝ) < 170141183460469231731687303715884105728)
    simp [this]

/-- The scale and its inverse, at a column's maximum. -/
theorem scale_inv (a t : EReal) (h : 0 ≤ t) (ha : a = 0 → t = 0) : scaleS a t = pickR t ∧ invS a t = invR (pickR t) := by
  unfold scaleS invS Scalar.select
  simp only [isOne_iff]
  have hz : a = 0 → pickR t = 1 := fun h0 => pickR_out t fun hc => by
    rw [ha h0] at hc
    refine absurd hc.1 (not_le.mpr ?_)
    unfold pw
    norm_num
  have one (hp : pickR t = 1) (c : Prop) [Decidable c] (hc : c) (u v : EReal) :
      (if c then Ideal.ofBits .f32 0x3F800000#32 else u) = pickR t ∧ (if c then Ideal.ofBits .f32 0x3F800000#32 else v) = invR (pickR t) := by
    rw [if_pos hc, if_pos hc, hp, invR_one, one_f32]
    exact ⟨rfl, rfl⟩
  by_cases h0 : a = 0
  · exact one (hz h0) _ (.inr h0) _ _
  rcases field_cases t h with ⟨h1, h2⟩ | ⟨n, hn, he, h2, h3⟩
  · exact one (pickR_out t fun hc => absurd hc.2 (not_lt.mpr h1)) _ (.inl (.inr h2)) _ _
  by_cases hn0 : n = 0
  · subst hn0
    exact one (pickR_out t fun hc => absurd hc.1 (not_le.mpr h3)) _ (.inl (.inl he)) _ _
  have hp := pickR_in t n (by omega) hn h2 h3
  have hb : ∀ m : ℕ, m < 256 → (BitVec.ofNat 32 n = BitVec.ofNat 32 m ↔ n = m) := fun m hm => by
    constructor
    · intro e
      have := congrArg BitVec.toNat e
      simp only [BitVec.toNat_ofNat] at this
      omega
    · rintro rfl; rfl
  have hc : ¬ ((fieldS t = 0#32 ∨ fieldS t = 255#32) ∨ a = 0) := by
    rw [he, hb 0 (by norm_num), hb 255 (by norm_num)]
    rintro ((h | h) | h)
    · exact hn0 h
    · omega
    · exact h0 h
  rw [if_neg hc, if_neg hc, hp, he]
  have ea : IntOp.addi (BitVec.ofNat 32 n) 1#32 = BitVec.ofNat 32 (n + 1) := (BitVec.ofNat_add n 1).symm
  have es : IntOp.subi 253#32 (BitVec.ofNat 32 n) = BitVec.ofNat 32 (253 - n) := by
    have : ∀ n : Fin 254, IntOp.subi 253#32 (BitVec.ofNat 32 n.val) = BitVec.ofNat 32 (253 - n.val) := by decide +kernel
    exact this ⟨n, hn⟩
  rw [ea, es, ofBits_field _ (by omega), ofBits_field _ (by omega)]
  refine ⟨rfl, ?_⟩
  have e2 : Ideal.ofBits .f32 0x7F000000#32 = pw 254 := ofBits_field 254 (by norm_num)
  have elt (x y : EReal) : FloatOps.cmpf (F := Ideal) (φ := .f32) .olt x y = 1 ↔ x < y := by
    show BitVec.ofBool (decide (x < y)) = 1 ↔ _
    by_cases h : x < y <;> simp [h]
  unfold invR Scalar.select
  rw [e2, one_f32, Ideal.ofBits_zero_f32]
  simp only [elt]
  by_cases h253 : n = 253
  · subst h253
    rw [if_neg (lt_irrefl _)]
    simp [pw]
  have p1 : pw (n + 1) = (((2 : ℝ) ^ ((n : ℤ) - 126) : ℝ) : EReal) := by
    unfold pw
    rw [if_neg (by omega), if_neg (by omega)]
    congr 2
    push_cast
    ring
  have p2 : pw 254 = (((2 : ℝ) ^ ((127 : ℤ)) : ℝ) : EReal) := by unfold pw; norm_num
  have p3 : pw (253 - n) = (((2 : ℝ) ^ (126 - (n : ℤ)) : ℝ) : EReal) := by
    unfold pw
    rw [if_neg (by omega), if_neg (by omega)]
    congr 2
    omega
  have hpos : (0 : ℝ) < (2 : ℝ) ^ ((n : ℤ) - 126) := zpow_pos (by norm_num) _
  rw [p1, p2, p3, if_pos (EReal.coe_lt_coe_iff.mpr (zpow_lt_zpow_right₀ (by norm_num) (by omega)))]
  unfold Ideal.div
  rw [if_neg (by exact_mod_cast hpos.ne'), one_mul, ← EReal.coe_inv, ← zpow_neg]
  congr 2
  ring

/-- The largest magnitude. -/
theorem maxR_eq (f : Fin 1536 → EReal) : maxR f = colMax f := by
  have e1 : Ideal.ofBits .f32 0xFF800000#32 = ⊥ := by simp [Ideal.ofBits, Ideal.ieee]
  have e2 : Ideal.ofBits .bf16 0xFF80#16 = ⊥ := by simp [Ideal.ofBits, Ideal.ieee]
  unfold maxR colMax
  rw [e1, e2]
  exact Finset.fold_congr fun k _ => rfl
theorem colMax_nonneg (f : Fin 1536 → EReal) : 0 ≤ colMax f := by
  refine Finset.le_fold_max _ |>.mpr (.inr ⟨0, Finset.mem_univ _, ?_⟩)
  rcases le_total 0 (f 0) with h | h
  · exact le_max_of_le_left h
  · exact le_max_of_le_right (EReal.neg_nonneg.mpr h)

theorem scale_eq (k : BitVec 32) (hk : 0 ≤ Ideal.ofBits .f32 k) (f : Fin 1536 → EReal) : scaleR k f = colScale k f := by
  unfold scaleR colScale
  rw [maxR_eq]
  exact (scale_inv _ _ (mul_nonneg (colMax_nonneg f) hk) fun h => by rw [h, zero_mul]).1.symm
theorem quant_eq (k lo hi : BitVec 32) (hk : 0 ≤ Ideal.ofBits .f32 k) (f : Fin 1536 → EReal) (i : Fin 1536) :
    clipR lo hi (scaleR k f) (f i) = colQuant k lo hi f i := by
  unfold clipR colQuant scaleR
  rw [maxR_eq, (scale_inv _ _ (mul_nonneg (colMax_nonneg f) hk) fun h => by rw [h, zero_mul]).2]
theorem kx_nonneg : 0 ≤ Ideal.ofBits .f32 0x3B124925#32 := by
  simp [Ideal.ofBits, Ideal.ieee]
  positivity
theorem ky_nonneg : 0 ≤ Ideal.ofBits .f32 0x37924925#32 := by
  simp [Ideal.ofBits, Ideal.ieee]
  positivity

end Cert.ReferenceIdeal.Body

end
-- ==== Proof.Codes.lean ====
/- The codes of the kernel and of the reference are the same numbers. -/
module

public import proofs.«01_k».proof.Proof.Scales

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Gen

open Cert.KernelIdeal.Body (vS clipS codeS factS byteS pairS)

/-! The codes of the two programs agree. -/

theorem c7 : Ideal.ofBits .f32 0x40E00000#32 = ((7 : ℝ) : EReal) := by
  simp [Ideal.ofBits, Ideal.ieee]
  rw [← EReal.coe_mul]
  norm_num
theorem c8 : Ideal.ofBits .f32 0xC1000000#32 = ((-8 : ℝ) : EReal) := by
  simp [Ideal.ofBits, Ideal.ieee]
  rw [← EReal.coe_mul]
  norm_num

/-- Rounding keeps the side of an integer. -/
theorem round_le (r : ℝ) (n : ℤ) (h : r ≤ n) : Ideal.roundHalfEven r ≤ n := by
  have hf : ⌊r⌋ ≤ n := by exact_mod_cast (Int.floor_le r).trans h
  unfold Ideal.roundHalfEven
  rcases hf.lt_or_eq with hl | he
  · dsimp only
    split_ifs <;> omega
  · have : r = ⌊r⌋ := le_antisymm (by rw [he]; exact h) (Int.floor_le r)
    dsimp only
    rw [if_pos (by rw [← this]; norm_num)]
    exact hf
theorem le_round (r : ℝ) (n : ℤ) (h : (n : ℝ) ≤ r) : n ≤ Ideal.roundHalfEven r := by
  have hf : n ≤ ⌊r⌋ := Int.le_floor.mpr h
  unfold Ideal.roundHalfEven
  dsimp only
  split_ifs <;> omega
theorem round_int (n : ℤ) : Ideal.roundHalfEven (n : ℝ) = n := le_antisymm (round_le _ n le_rfl) (le_round _ n le_rfl)

/-- Where a weight lies against the codes' range. -/
theorem range_cases (v : EReal) :
    (v < ((-8 : ℝ) : EReal) ∧ clipS v = ((-8 : ℝ) : EReal) ∧ codeS v = ((-8 : ℝ) : EReal) ∧ codeR v = ((-8 : ℝ) : EReal))
    ∨ (((7 : ℝ) : EReal) < v ∧ clipS v = ((7 : ℝ) : EReal) ∧ codeS v = ((7 : ℝ) : EReal) ∧ codeR v = ((7 : ℝ) : EReal))
    ∨ (((-8 : ℝ) : EReal) ≤ v ∧ v ≤ ((7 : ℝ) : EReal) ∧ clipS v = v ∧ codeS v = codeR v) := by
  have r8 : Ideal.liftRound Ideal.roundHalfEven ((-8 : ℝ) : EReal) = ((-8 : ℝ) : EReal) := by
    rw [Ideal.liftRound_coe, show (-8 : ℝ) = ((-8 : ℤ) : ℝ) by norm_num, round_int]
  have r7 : Ideal.liftRound Ideal.roundHalfEven ((7 : ℝ) : EReal) = ((7 : ℝ) : EReal) := by
    rw [Ideal.liftRound_coe, show (7 : ℝ) = ((7 : ℤ) : ℝ) by norm_num, round_int]
  have h87 : ((-8 : ℝ) : EReal) ≤ ((7 : ℝ) : EReal) := EReal.coe_le_coe_iff.mpr (by norm_num)
  have up : ∀ u : EReal, u ≤ ((7 : ℝ) : EReal) → Ideal.liftRound Ideal.roundHalfEven u ≤ ((7 : ℝ) : EReal) := by
    intro u hu
    induction u with
    | bot => simp
    | top => simpa using hu
    | coe r =>
      rw [Ideal.liftRound_coe]
      have := round_le r 7 (by exact_mod_cast hu)
      exact EReal.coe_le_coe_iff.mpr (by exact_mod_cast this)
  have dn : ∀ u : EReal, ((-8 : ℝ) : EReal) ≤ u → ((-8 : ℝ) : EReal) ≤ Ideal.liftRound Ideal.roundHalfEven u := by
    intro u hu
    induction u with
    | bot => simpa using hu
    | top => simp
    | coe r =>
      rw [Ideal.liftRound_coe]
      have h := EReal.coe_le_coe_iff.mp hu
      have := le_round r (-8) (by push_cast; exact h)
      have h' : (((-8 : ℤ) : ℤ) : ℝ) ≤ ((Ideal.roundHalfEven r : ℤ) : ℝ) := Int.cast_le.mpr this
      exact EReal.coe_le_coe_iff.mpr (by push_cast at h'; exact h')
  have up8 : ∀ u : EReal, u ≤ ((-8 : ℝ) : EReal) → Ideal.liftRound Ideal.roundHalfEven u ≤ ((-8 : ℝ) : EReal) := by
    intro u hu
    induction u with
    | bot => simp
    | top => simpa using hu
    | coe r =>
      rw [Ideal.liftRound_coe]
      have h := EReal.coe_le_coe_iff.mp hu
      have := round_le r (-8) (by push_cast; exact h)
      have h' : ((Ideal.roundHalfEven r : ℤ) : ℝ) ≤ (((-8 : ℤ) : ℤ) : ℝ) := Int.cast_le.mpr this
      exact EReal.coe_le_coe_iff.mpr (by push_cast at h'; exact h')
  have dn7 : ∀ u : EReal, ((7 : ℝ) : EReal) ≤ u → ((7 : ℝ) : EReal) ≤ Ideal.liftRound Ideal.roundHalfEven u := by
    intro u hu
    induction u with
    | bot => simpa using hu
    | top => simp
    | coe r =>
      rw [Ideal.liftRound_coe]
      have := le_round r 7 (by exact_mod_cast hu)
      exact EReal.coe_le_coe_iff.mpr (by exact_mod_cast this)
  unfold codeS codeR clipS
  rw [c7, c8]
  rcases lt_or_ge v ((-8 : ℝ) : EReal) with h1 | h1
  · refine .inl ⟨h1, ?_, ?_, ?_⟩
    · rw [max_eq_left h1.le, min_eq_right h87]
    · rw [max_eq_left h1.le, min_eq_right h87, r8]
    · rw [max_eq_left (up8 v h1.le), min_eq_right h87]
  rcases lt_or_ge ((7 : ℝ) : EReal) v with h2 | h2
  · refine .inr (.inl ⟨h2, ?_, ?_, ?_⟩)
    · rw [max_eq_right h1, min_eq_left h2.le]
    · rw [max_eq_right h1, min_eq_left h2.le, r7]
    · rw [max_eq_right (dn v h1), min_eq_left (dn7 v h2.le)]
  · refine .inr (.inr ⟨h1, h2, ?_, ?_⟩)
    · rw [max_eq_right h1, min_eq_right h2]
    · rw [max_eq_right h1, min_eq_right h2, max_eq_right (dn v h1), min_eq_right (up v h2)]

/-- The code of a weight, -/
theorem code_eq (v : EReal) : codeR v = codeS v := by
  rcases range_cases v with ⟨_, _, h, h'⟩ | ⟨_, _, h, h'⟩ | ⟨_, _, _, h⟩
  · rw [h, h']
  · rw [h, h']
  · exact h.symm

theorem cmp_iff (x y : EReal) : (FloatOps.cmpf (F := Ideal) (φ := .f32) .olt x y = 1 ↔ x < y) ∧ (FloatOps.cmpf (F := Ideal) (φ := .f32) .ogt x y = 1 ↔ y < x)
    ∧ (FloatOps.cmpf (F := Ideal) (φ := .f32) .oge x y = 1 ↔ y ≤ x) ∧ (FloatOps.cmpf (F := Ideal) (φ := .f32) .ole x y = 1 ↔ x ≤ y) := by
  refine ⟨?_, ?_, ?_, ?_⟩
  · show BitVec.ofBool (decide _) = 1 ↔ _
    by_cases h : x < y <;> simp [h]
  · show BitVec.ofBool (decide _) = 1 ↔ _
    by_cases h : y < x <;> simp [h]
  · show BitVec.ofBool (decide _) = 1 ↔ _
    by_cases h : y ≤ x <;> simp [h]
  · show BitVec.ofBool (decide _) = 1 ↔ _
    by_cases h : x ≤ y <;> simp [h]

/-- its factor in the step size's gradient, -/
theorem fact_eq (v : EReal) : factR v (codeR v) = factS v := by
  unfold factR factS Scalar.select
  rw [c7, c8]
  simp only [(cmp_iff _ _).1, (cmp_iff _ _).2.1]
  rcases range_cases v with ⟨h1, h2, h, h'⟩ | ⟨h1, h2, h, h'⟩ | ⟨h1, h2, h3, h⟩
  · rw [if_pos h1, h2, h, if_neg h1.ne', sub_zero]
  · have h8 : ¬ v < ((-8 : ℝ) : EReal) := not_lt.mpr ((EReal.coe_le_coe_iff.mpr (by norm_num)).trans h1.le)
    rw [if_neg h8, if_pos h1, h2, h, if_neg h1.ne, sub_zero]
  · rw [if_neg (not_lt.mpr h1), if_neg (not_lt.mpr h2), h3, if_pos rfl, h]

/-- and whether its gradient is kept. -/
theorem keep_eq (p v : EReal) : dwR p v = if clipS v = v then p else 0 := by
  unfold dwR Scalar.select
  rw [c7, c8, Ideal.ofBits_zero_f32]
  have e : ∀ a b : BitVec 1, IntOp.andi a b = 1 ↔ a = 1 ∧ b = 1 := by decide
  simp only [e, (cmp_iff _ _).2.2.1, (cmp_iff _ _).2.2.2]
  rcases range_cases v with ⟨h1, h2, h, h'⟩ | ⟨h1, h2, h, h'⟩ | ⟨h1, h2, h3, h⟩
  · rw [if_neg fun hc => absurd hc.1 (not_le.mpr h1), h2, if_neg h1.ne']
  · rw [if_neg fun hc => absurd hc.2 (not_le.mpr h1), h2, if_neg h1.ne]
  · rw [if_pos ⟨h1, h2⟩, h3, if_pos rfl]

/-- A weight over a step size that is not zero. -/
theorem v_eq (w s : EReal) (hs : s ≠ 0) : Ideal.div w s = vS w s := by
  have e : Ideal.ofBits .f32 0x3F800000#32 = ((1 : ℝ) : EReal) := by
    simp [Ideal.ofBits, Ideal.ieee]
    rw [← EReal.coe_mul]
    norm_num
  unfold vS Ideal.div
  rw [if_neg hs, if_neg hs, e, EReal.coe_one, one_mul]

/-- Two codes packed in a byte. -/
theorem pack_eq (p q : EReal) : joinR (halfR p) (halfR q) = pairS ((Ideal.fptosi 32 p).setWidth 8) ((Ideal.fptosi 32 q).setWidth 8) := by
  unfold joinR halfR pairS
  generalize Ideal.fptosi 32 p = a
  generalize Ideal.fptosi 32 q = b
  show ((a &&& 15#32) ||| (IntOp.shli .host (b &&& 15#32) 4#32)).setWidth 8 = _
  rw [show IntOp.shli .host (b &&& 15#32) 4#32 = (b &&& 15#32) <<< 4 from rfl]
  ext i hi
  simp only [BitVec.getElem_setWidth, BitVec.getLsbD_or, BitVec.getLsbD_and, BitVec.getElem_or, BitVec.getElem_and, BitVec.getLsbD_shiftLeft, BitVec.getElem_shiftLeft]
  interval_cases i <;> simp

end Cert.ReferenceIdeal.Body

end
-- ==== Proof.Agree.lean ====
/- The results of the kernel and of the reference are the same functions of the arguments. -/
module

public import proofs.«01_k».proof.Proof.RefArrays
public import proofs.«01_k».proof.Proof.Codes

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Gen

open Cert.KernelIdeal.Body (xA yA sA dwA dsA xqA sxA yqA syA qpA dwS dsS prodS xqS yqS sxS syS vS byteS pairS codeS factS clipS)

/-! The results of the two programs, as functions of the arguments, agree. -/

variable (x : Vec Ideal S1536x1024 .bf16) (y : Vec Ideal S1536x4096 .bf16) (w : FVec Ideal S4096x1024 .f32) (s : FVec Ideal S4096 .f32)

theorem sx_at (l : Fin 1024) : xScale (xT x) (ix2 0 l) = scaleR 0x3B124925#32 (fun i => x (ix2 i l)) := by
  rw [xScale_apply, xT_apply]
  unfold scaleR
  rfl
theorem sy_at (r : Fin 4096) : yScale (yT y) (ix2 0 r) = scaleR 0x37924925#32 (fun i => y (ix2 i r)) := by
  rw [yScale_apply, yT_apply]
  unfold scaleR
  rfl
theorem s_at (r : Fin 4096) : sA s (ix2 0 r) = s (ix1 r) := by
  pointwise [sA]

/-- The scales of `x`, -/
theorem sx_agree : xScale (xT x) = sxA x := by
  funext j
  obtain ⟨i, l, rfl⟩ : ∃ (i : Fin 1) (l : Fin 1024), j = ix2 i l := ⟨_, _, eq_ix2 j⟩
  obtain rfl : i = 0 := Subsingleton.elim (α := Fin 1) _ _
  rw [sx_at]
  exact scale_eq _ kx_nonneg _
/-- the scales of `dy`, -/
theorem sy_agree : yScale (yT y) = syA y := by
  funext j
  obtain ⟨i, l, rfl⟩ : ∃ (i : Fin 1) (l : Fin 4096), j = ix2 i l := ⟨_, _, eq_ix2 j⟩
  obtain rfl : i = 0 := Subsingleton.elim (α := Fin 1) _ _
  rw [sy_at]
  exact scale_eq _ ky_nonneg _
/-- `x` quantised, -/
theorem xq_agree : k0_pay9 (xScale (xT x)) x = xqA x := by
  funext j
  obtain ⟨i, l, rfl⟩ : ∃ (i : Fin 1536) (l : Fin 1024), j = ix2 i l := ⟨_, _, eq_ix2 j⟩
  rw [xq_apply, sx_at]
  exact quant_eq _ _ _ kx_nonneg (fun i => x (ix2 i l)) i
/-- `dy` quantised, -/
theorem yq_agree : k0_pay1 (k0_pay10 (yScale (yT y)) y) k0_pay11 = yqA y := by
  funext j
  obtain ⟨i, l, rfl⟩ : ∃ (i : Fin 1536) (l : Fin 4096), j = ix2 i l := ⟨_, _, eq_ix2 j⟩
  rw [yq_apply, sy_at]
  exact quant_eq _ _ _ ky_nonneg (fun i => y (ix2 i l)) i

theorem prod_agree (f g : Fin 1536 → EReal) : prodR f g (scaleR 0x37924925#32 f) (scaleR 0x3B124925#32 g) = prodS f g := by
  have hx (i : Fin 1536) : xqR (scaleR 0x3B124925#32 g) (g i) = xqS g i := quant_eq _ _ _ kx_nonneg g i
  have hy (i : Fin 1536) : yqR (scaleR 0x37924925#32 f) (f i) = yqS f i := quant_eq _ _ _ ky_nonneg f i
  unfold prodR prodS
  simp only [hx, hy]
  rw [scale_eq _ kx_nonneg, scale_eq _ ky_nonneg]
theorem prod_at (r : Fin 4096) (l : Fin 1024) :
    k0_pay2 (k0_pay5 (xScale (xT x))) (k0_pay6 (yScale (yT y))) (k0_pay9 (xScale (xT x)) x) (k0_pay10 (yScale (yT y)) y) k0_pay11 (ix2 r l)
      = prodS (fun i => y (ix2 i r)) (fun i => x (ix2 i l)) := by
  rw [prod_eq, sx_at, sy_at]
  exact prod_agree _ _

variable (hs : ∀ r, s (ix1 r) ≠ 0)

include hs
theorem v_at (r : Fin 4096) (l : Fin 1024) : vV w s (ix2 r l) = vS (w (ix2 r l)) (sA s (ix2 0 r)) := by
  rw [vV_apply, s_at]
  exact v_eq _ _ (hs r)
/-- the weights' gradient, -/
theorem dw_agree : k0_pay3 (k0_pay5 (xScale (xT x))) (k0_pay6 (yScale (yT y))) (k0_pay7 (vV w s)) (k0_pay9 (xScale (xT x)) x)
      (k0_pay10 (yScale (yT y)) y) k0_pay11 = dwA x y w (sA s) := by
  funext j
  obtain ⟨r, l, rfl⟩ : ∃ (r : Fin 4096) (l : Fin 1024), j = ix2 r l := ⟨_, _, eq_ix2 j⟩
  rw [dw_apply, prod_at, v_at w s hs, keep_eq]
  show _ = dwS (fun i => y (ix2 i r)) (fun i => x (ix2 i l)) (w (ix2 r l)) (sA s (ix2 0 r))
  rfl
/-- the step sizes' gradient, -/
theorem ds_agree : k0_pay4 (k0_pay5 (xScale (xT x))) (k0_pay6 (yScale (yT y))) (k0_pay7 (vV w s)) (k0_pay8 (qV (vV w s))) (k0_pay9 (xScale (xT x)) x)
      (k0_pay10 (yScale (yT y)) y) k0_pay11 = dsA x y w (sA s) := by
  funext j
  obtain ⟨i, r, rfl⟩ : ∃ (i : Fin 1) (r : Fin 4096), j = ix2 i r := ⟨_, _, eq_ix2 j⟩
  obtain rfl : i = 0 := Subsingleton.elim (α := Fin 1) _ _
  rw [ds_apply]
  simp only [prod_at, qV_apply, v_at w s hs, fact_eq]
  show _ = dsS (fun i => y (ix2 i r)) (fun l i => x (ix2 i l)) (fun l => w (ix2 r l)) (sA s (ix2 0 r))
  rfl
/-- and the packed codes. -/
theorem qp_agree : packV (codeV (qV (vV w s))) = qpA w (sA s) := by
  funext j
  obtain ⟨r, l, rfl⟩ : ∃ (r : Fin 4096) (l : Fin 512), j = ix2 r l := ⟨_, _, eq_ix2 j⟩
  rw [packV_apply]
  simp only [codeV_apply, qV_apply, v_at w s hs, code_eq, pack_eq]
  have e : (⟨1 + 2 * l.val, by omega⟩ : Fin 1024) = ⟨2 * l.val + 1, by omega⟩ := Fin.ext (Nat.add_comm _ _)
  rw [e]
  show _ = pairS (byteS (w (ix2 r ⟨2 * l.val, _⟩)) (sA s (ix2 0 r))) (byteS (w (ix2 r ⟨2 * l.val + 1, _⟩)) (sA s (ix2 0 r)))
  rfl

end Cert.ReferenceIdeal.Body

end
-- ==== Proof.Algebraic.lean ====
/- The algebraic claim: the kernel and the reference end with the same results. -/
module

public import proofs.«01_k».proof.Defs
public import proofs.«01_k».proof.Proof.Gen.Pre_s_nonzero
public import proofs.«01_k».proof.Proof.Agree
public import Idealize.ShloMosaic.Lib.Claim

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Gen

/-! The runs of the two programs. -/

/-- What the kernel's run leaves in its results. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3_0) = KernelIdeal.Body.dwA (KernelIdeal.Body.xM m c) (KernelIdeal.Body.yM m c) (KernelIdeal.Body.wM m c) (KernelIdeal.Body.sM m c)
      ∧ r.2.mem ((c.tc : Thread Cert.KernelIdeal.nD Cert.KernelIdeal.τ).loc Cert.KernelIdeal.main_v3_1) = KernelIdeal.Body.dsA (KernelIdeal.Body.xM m c) (KernelIdeal.Body.yM m c) (KernelIdeal.Body.wM m c) (KernelIdeal.Body.sM m c)
      ∧ r.2.mem ((c.tc : Thread Cert.KernelIdeal.nD Cert.KernelIdeal.τ).loc Cert.KernelIdeal.main_v3_2) = KernelIdeal.Body.xqA (KernelIdeal.Body.xM m c)
      ∧ r.2.mem ((c.tc : Thread Cert.KernelIdeal.nD Cert.KernelIdeal.τ).loc Cert.KernelIdeal.main_v3_3) = KernelIdeal.Body.sxA (KernelIdeal.Body.xM m c)
      ∧ r.2.mem ((c.tc : Thread Cert.KernelIdeal.nD Cert.KernelIdeal.τ).loc Cert.KernelIdeal.main_v3_4) = KernelIdeal.Body.yqA (KernelIdeal.Body.yM m c)
      ∧ r.2.mem ((c.tc : Thread Cert.KernelIdeal.nD Cert.KernelIdeal.τ).loc Cert.KernelIdeal.main_v3_5) = KernelIdeal.Body.syA (KernelIdeal.Body.yM m c)
      ∧ r.2.mem ((c.tc : Thread Cert.KernelIdeal.nD Cert.KernelIdeal.τ).loc Cert.KernelIdeal.main_v3_6) = KernelIdeal.Body.qpA (KernelIdeal.Body.wM m c) (KernelIdeal.Body.sM m c)) :=
  (θ_run Cert.KernelIdeal.defs _ _).mono (fun r h c =>
    ⟨((h c).1 4).trans (KernelIdeal.Body.dw_arr m c), ((h c).1 5).trans (KernelIdeal.Body.ds_arr m c), ((h c).1 6).trans (KernelIdeal.Body.xq_arr m c),
      ((h c).1 7).trans (KernelIdeal.Body.sx_arr m c), ((h c).1 8).trans (KernelIdeal.Body.yq_arr m c), ((h c).1 9).trans (KernelIdeal.Body.sy_arr m c),
      ((h c).1 10).trans (KernelIdeal.Body.qp_arr m c)⟩) (KernelIdeal.Body.run_main m g)

open Cert.KernelIdeal.Body (sA dwA dsA xqA sxA yqA syA qpA)

section Results

variable (m : (ℓ : Loc nD τ sig) → Buf (Elt Ideal) ℓ) (c : Dev nD)

/-- The weights the reference reads, -/
abbrev wM : FVec Ideal S4096x1024 .f32 := m ((c : Thread nD τ).loc main_arg2)
/-- and the step sizes. -/
abbrev sV : FVec Ideal S4096 .f32 := m ((c : Thread nD τ).loc main_arg3)

/-- The reference's gradient of the weights is the kernel's; -/
theorem dw_res (hs : ∀ r, sV m c (ix1 r) ≠ 0) : (dats m 0 c).arrAt 6 cfg0.N = dwA (xM m c) (yM m c) (wM m c) (sA (sV m c)) :=
  (dw_arr m c).trans (dw_agree (xM m c) (yM m c) (wM m c) (sV m c) hs)
/-- its gradient of the step sizes; -/
theorem ds_res (hs : ∀ r, sV m c (ix1 r) ≠ 0) : (dats m 0 c).arrAt 7 cfg0.N = dsA (xM m c) (yM m c) (wM m c) (sA (sV m c)) :=
  (ds_arr m c).trans (ds_agree (xM m c) (yM m c) (wM m c) (sV m c) hs)
/-- its quantised `x` and `dy`; -/
theorem xq_res : (dats m 0 c).arrAt 8 cfg0.N = xqA (xM m c) := (xq_arr m c).trans (xq_agree (xM m c))
theorem yq_res : (dats m 0 c).arrAt 9 cfg0.N = yqA (yM m c) := (yq_arr m c).trans (yq_agree (yM m c))
/-- the scales of the two; -/
theorem sx_res : V m c main_v27 = sxA (xM m c) := (V_sx_eq m c).trans (sx_agree (xM m c))
theorem sy_res : V m c main_v53 = syA (yM m c) := (V_sy_eq m c).trans (sy_agree (yM m c))
/-- and its packed codes of the weights. -/
theorem qp_res (hs : ∀ r, sV m c (ix1 r) ≠ 0) : V m c main_v67 = qpA (wM m c) (sA (sV m c)) :=
  (V_qp_eq m c).trans (qp_agree (wM m c) (sV m c) hs)

end Results

/-- What the reference's run leaves in its results. -/
theorem reference_run (m : (ℓ : Loc nD τ sig) → Buf (Elt Ideal) ℓ) (g : Dev nD → PrngReg)
    (hs : ∀ (c : Dev nD) (r : Fin 4096), sV m c (ix1 r) ≠ 0) :
    θ_run (defs (F := Ideal)) (onTc (τ := τ) (main (F := Ideal))) ⟨m, fun _ => 0, g⟩ (fun r => ∀ c : Dev nD,
      r.2.mem ((c.tc : Thread nD τ).loc main_v68_0) = dwA (xM m c) (yM m c) (wM m c) (sA (sV m c))
      ∧ r.2.mem ((c.tc : Thread nD τ).loc main_v68_1) = dsA (xM m c) (yM m c) (wM m c) (sA (sV m c))
      ∧ r.2.mem ((c.tc : Thread nD τ).loc main_v68_2) = xqA (xM m c)
      ∧ r.2.mem ((c.tc : Thread nD τ).loc main_v27) = sxA (xM m c)
      ∧ r.2.mem ((c.tc : Thread nD τ).loc main_v68_3) = yqA (yM m c)
      ∧ r.2.mem ((c.tc : Thread nD τ).loc main_v53) = syA (yM m c)
      ∧ r.2.mem ((c.tc : Thread nD τ).loc main_v67) = qpA (wM m c) (sA (sV m c))) :=
  (θ_run defs _ _).mono (fun r h c =>
    ⟨(Value.post6 m r h c).trans (dw_res m c (hs c)), (Value.post7 m r h c).trans (ds_res m c (hs c)), (Value.post8 m r h c).trans (xq_res m c),
      ((h c).1 2).trans (((dats m 0 c).arrAt_in 2 rfl _).trans ((A_eq m c 2).trans (sx_res m c))),
      (Value.post9 m r h c).trans (yq_res m c),
      ((h c).1 3).trans (((dats m 0 c).arrAt_in 3 rfl _).trans ((A_eq m c 3).trans (sy_res m c))),
      ((h c).2 main_v67 (Pipeline.mem_restRefs_of main_v67 (by decide) (by decide))).trans (qp_res m c (hs c))⟩) (run_main m g)

/-- The precondition says that no step size is zero. -/
theorem nonzero_of_pre (a0 : FVec Ideal S2x768x1024 .bf16) (a1 : FVec Ideal S2x768x4096 .bf16) (a2 : FVec Ideal S4096x1024 .f32) (s : FVec Ideal S4096 .f32)
    (h : Cert.Pre_s_nonzero.fn (F := Ideal) a0 a1 a2 s = fun _ => 1#1) (r : Fin 4096) : s (ix1 r) ≠ 0 := by
  have h1 := congrFun h (ix1 r)
  have h2 : Ideal.ofBits .f32 0x00000000#32 = (0 : EReal) := Ideal.ofBits_zero_f32
  intro h0
  have h3 : BitVec.ofBool (decide (s (ix1 r) ≠ Ideal.ofBits .f32 0x00000000#32)) = 1#1 := h1
  rw [h2, h0] at h3
  simp at h3

/-- From memories that agree on the arguments, with no step size zero, the kernel and the reference leave the same
    results, element by element as extended reals, and their arguments unchanged. -/
theorem algebraic : Cert.algebraic_KernelIdeal_ReferenceIdeal_pre_s_nonzero := by
  intro m g m' g' hp ha
  have hs : ∀ (c : Dev nD) (r : Fin 4096), sV m' c (ix1 r) ≠ 0 := fun c r => by
    have h1 : sV m' c = m ((c.tc : Thread Cert.KernelIdeal.nD Cert.KernelIdeal.τ).loc Cert.KernelIdeal.main_arg3) := (ha c).2.2.2
    rw [h1]
    exact nonzero_of_pre _ _ _ _ (hp c) r
  refine ⟨_, _, _, _, _, _, _,
    (θ_run Cert.KernelIdeal.defs _ _).mono (fun r h c =>
      ⟨(h.1 c).1, (h.1 c).2.1, (h.1 c).2.2.1, (h.1 c).2.2.2.1, (h.1 c).2.2.2.2.1, (h.1 c).2.2.2.2.2.1, (h.1 c).2.2.2.2.2.2, h.2 c⟩)
      (θ_run_and (kernel_run m g) (KernelIdeal.Body.unchanged m g)),
    (θ_run defs _ _).mono (fun r h c => ?_) (θ_run_and (reference_run m' g' hs) (Cert.ReferenceIdeal.Gen.unchanged m' g'))⟩
  have hx : xM m' c = KernelIdeal.Body.xM m c := congrArg KernelIdeal.Body.xA (ha c).1
  have hy : yM m' c = KernelIdeal.Body.yM m c := congrArg KernelIdeal.Body.yA (ha c).2.1
  have hw : wM m' c = KernelIdeal.Body.wM m c := (ha c).2.2.1
  have hz : sA (sV m' c) = KernelIdeal.Body.sM m c := congrArg sA (ha c).2.2.2
  have h1 := h.1 c
  rw [hx, hy, hw, hz] at h1
  exact ⟨h1.1, h1.2.1, h1.2.2.1, h1.2.2.2.1, h1.2.2.2.2.1, h1.2.2.2.2.2.1, h1.2.2.2.2.2.2, h.2 c⟩

end Cert.ReferenceIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_s_nonzero
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_s_nonzero.Gen.facts,
    fun m ρ _ => Cert.Kernel.Gen.frame m ρ,
    fun m ρ _ => Cert.KernelIdeal.Body.frame m ρ,
    fun m ρ _ => Cert.KernelIdeal.Body.frame m ρ,
    fun m ρ _ => Cert.ReferenceIdeal.Gen.frame m ρ,
    fun m ρ _ => Cert.ReferenceIdeal.Gen.frame m ρ,
    trivial,
    Cert.ReferenceIdeal.Body.algebraic⟩

end Cert.Proof

end
